-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x768x56x56 : Shape := ⟨4, ![16, 768, 56, 56]⟩
abbrev S12288x56x56 : Shape := ⟨3, ![12288, 56, 56]⟩
abbrev S4x56x56 : Shape := ⟨3, ![4, 56, 56]⟩
abbrev S_ : Shape := ⟨0, ![]⟩
abbrev S1x56x56 : Shape := ⟨3, ![1, 56, 56]⟩

abbrev nBuf : Table → Nat
  | .hbm => 4
  | .local .scVector .vmem => 4
  | _ => 0

abbrev bufTy : (tb : Table) → Fin (nBuf tb) → BufTy
  | .hbm, ⟨0, _⟩ => ⟨S16x768x56x56, .f32⟩
  | .hbm, ⟨1, _⟩ => ⟨S12288x56x56, .f32⟩
  | .hbm, ⟨2, _⟩ => ⟨S12288x56x56, .f32⟩
  | .hbm, ⟨3, _⟩ => ⟨S16x768x56x56, .f32⟩
  | .local .scVector .vmem, ⟨0, _⟩ => ⟨S4x56x56, .f32⟩
  | .local .scVector .vmem, ⟨1, _⟩ => ⟨S4x56x56, .f32⟩
  | .local .scVector .vmem, ⟨2, _⟩ => ⟨S4x56x56, .f32⟩
  | .local .scVector .vmem, ⟨3, _⟩ => ⟨S4x56x56, .f32⟩
  | _, _ => ⟨S16x768x56x56, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_6 : BitVec 32) (c0_i32_7 : BitVec 32) : Fin 3 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c768_i32 : BitVec 32 := 768#32
  let c0_i32_1 : BitVec 32 := 0#32
  let v9 : BitVec 1 := Scalar.cmpi .sgt c768_i32 c0_i32_1
  let v10 : BitVec 32 := Scalar.extui v9
  let c0_i32_2 : BitVec 32 := 0#32
  let v11 : BitVec 1 := Scalar.cmpi .slt c768_i32 c0_i32_2
  let v12 : BitVec 32 := Scalar.extui v11
  let v13 : BitVec 32 := Scalar.subi v10 v12
  let v14 : BitVec 1 := Scalar.cmpi .ne v8 v13
  let v15 : BitVec 32 := Scalar.remsi v2 c768_i32
  let c0_i32_3 : BitVec 32 := 0#32
  let v16 : BitVec 1 := Scalar.cmpi .ne v15 c0_i32_3
  let v17 : BitVec 1 := Scalar.andi v14 v16
  let v3 : BitVec 32 := Scalar.divsi v2 c768_i32
  let c1_i32 : BitVec 32 := 1#32
  let v18 : BitVec 32 := Scalar.subi v3 c1_i32
  let v19 : BitVec 32 := Scalar.select v17 v18 v3
  let v20 : BitVec 32 := Scalar.muli c2_i32_4 v19
  let c768_i32_5 : BitVec 32 := 768#32
  let v21 : BitVec 32 := Scalar.muli v20 c768_i32_5
  let c767_i32 : BitVec 32 := 767#32
  let v22 : BitVec 32 := Scalar.addi v21 c767_i32
  let v23 : BitVec 32 := Scalar.addi v2 c0_i32_6
  let v24 : BitVec 32 := Scalar.subi v22 v23
  let v25 : BitVec 32 := Scalar.subi v24 c0_i32_7
  let c0_i32_11 : BitVec 32 := 0#32
  let c0_i32_12 : BitVec 32 := 0#32
  ![v25.toNat, 0, 0]
def k0_off1_at (r : Fin 32) : BitVec 32 × BitVec 32 :=
  if r.val < 16 then
    if r.val < 8 then
      if r.val < 4 then
        if r.val < 2 then
          if r.val < 1 then
            (0#32, 0#32)
          else
            (0#32, 1#32)
        else
          if r.val < 3 then
            (0#32, 2#32)
          else
            (0#32, 3#32)
      else
        if r.val < 6 then
          if r.val < 5 then
            (4#32, 0#32)
          else
            (4#32, 1#32)
        else
          if r.val < 7 then
            (4#32, 2#32)
          else
            (4#32, 3#32)
    else
      if r.val < 12 then
        if r.val < 10 then
          if r.val < 9 then
            (8#32, 0#32)
          else
            (8#32, 1#32)
        else
          if r.val < 11 then
            (8#32, 2#32)
          else
            (8#32, 3#32)
      else
        if r.val < 14 then
          if r.val < 13 then
            (12#32, 0#32)
          else
            (12#32, 1#32)
        else
          if r.val < 15 then
            (12#32, 2#32)
          else
            (12#32, 3#32)
  else
    if r.val < 24 then
      if r.val < 20 then
        if r.val < 18 then
          if r.val < 17 then
            (16#32, 0#32)
          else
            (16#32, 1#32)
        else
          if r.val < 19 then
            (16#32, 2#32)
          else
            (16#32, 3#32)
      else
        if r.val < 22 then
          if r.val < 21 then
            (20#32, 0#32)
          else
            (20#32, 1#32)
        else
          if r.val < 23 then
            (20#32, 2#32)
          else
            (20#32, 3#32)
    else
      if r.val < 28 then
        if r.val < 26 then
          if r.val < 25 then
            (376#32, 0#32)
          else
            (376#32, 1#32)
        else
          if r.val < 27 then
            (376#32, 2#32)
          else
            (376#32, 3#32)
      else
        if r.val < 30 then
          if r.val < 29 then
            (380#32, 0#32)
          else
            (380#32, 1#32)
        else
          if r.val < 31 then
            (380#32, 2#32)
          else
            (380#32, 3#32)
def k0_off2 (i : grid0.Coords) (c0_i32_188 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let v125 : BitVec 32 := Scalar.addi v2 c0_i32_188
  let c0_i32_189 : BitVec 32 := 0#32
  let c0_i32_190 : BitVec 32 := 0#32
  ![v125.toNat, 0, 0]
def k0_off2_at (r : Fin 10) : BitVec 32 :=
  if r.val < 5 then
    if r.val < 2 then
      if r.val < 1 then
        0#32
      else
        4#32
    else
      if r.val < 3 then
        8#32
      else
        if r.val < 4 then
          12#32
        else
          368#32
  else
    if r.val < 7 then
      if r.val < 6 then
        360#32
      else
        372#32
    else
      if r.val < 8 then
        364#32
      else
        if r.val < 9 then
          376#32
        else
          380#32
@[reducible] def k0_t1_loop : Scf.Loop 32 :=
  let c0_i32_324 : BitVec 32 := 0#32
  let c22_i32 : BitVec 32 := 22#32
  let v199 : BitVec 32 := Scalar.addi c0_i32_324 c22_i32
  let c1_i32_325 : BitVec 32 := 1#32
  ⟨c0_i32_324, v199, c1_i32_325⟩
def k0_off3 (i : grid0.Coords) (k0_t1 : Fin k0_t1_loop.trips) (c0_i32_487 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c4_i32_486 : BitVec 32 := 4#32
  let c0_i32_324 : BitVec 32 := 0#32
  let c1_i32_325 : BitVec 32 := 1#32
  let arg16 : BitVec 32 := Scf.iv c0_i32_324 c1_i32_325 k0_t1
  let c4_i32_485 : BitVec 32 := 4#32
  let v288 : BitVec 32 := Scalar.muli arg16 c4_i32_485
  let v289 : BitVec 32 := Scalar.addi c4_i32_486 v288
  let v290 : BitVec 32 := Scalar.addi v289 c0_i32_487
  let c4_i32_494 : BitVec 32 := 4#32
  let v293 : BitVec 32 := Scalar.muli v290 c4_i32_494
  let v294 : BitVec 32 := Scalar.addi v2 v293
  let c0_i32_495 : BitVec 32 := 0#32
  let c0_i32_496 : BitVec 32 := 0#32
  ![v294.toNat, 0, 0]
def k0_off4 (i : grid0.Coords) (k0_t1 : Fin k0_t1_loop.trips) (c0_i32_487 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c4_i32_486 : BitVec 32 := 4#32
  let c0_i32_324 : BitVec 32 := 0#32
  let c1_i32_325 : BitVec 32 := 1#32
  let arg16 : BitVec 32 := Scf.iv c0_i32_324 c1_i32_325 k0_t1
  let c4_i32_485 : BitVec 32 := 4#32
  let v288 : BitVec 32 := Scalar.muli arg16 c4_i32_485
  let v289 : BitVec 32 := Scalar.addi c4_i32_486 v288
  let v290 : BitVec 32 := Scalar.addi v289 c0_i32_487
  let c2_i32_499 : BitVec 32 := 2#32
  let v297 : BitVec 32 := Scalar.subi v290 c2_i32_499
  let c4_i32_500 : BitVec 32 := 4#32
  let v298 : BitVec 32 := Scalar.muli v297 c4_i32_500
  let v299 : BitVec 32 := Scalar.addi v2 v298
  let c0_i32_501 : BitVec 32 := 0#32
  let c0_i32_502 : BitVec 32 := 0#32
  ![v299.toNat, 0, 0]
def k0_off5 (i : grid0.Coords) (k0_t1 : Fin k0_t1_loop.trips) (c0_i32_487 : BitVec 32) (c0_i32_507 : BitVec 32) : Fin 3 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c768_i32 : BitVec 32 := 768#32
  let c0_i32_1 : BitVec 32 := 0#32
  let v9 : BitVec 1 := Scalar.cmpi .sgt c768_i32 c0_i32_1
  let v10 : BitVec 32 := Scalar.extui v9
  let c0_i32_2 : BitVec 32 := 0#32
  let v11 : BitVec 1 := Scalar.cmpi .slt c768_i32 c0_i32_2
  let v12 : BitVec 32 := Scalar.extui v11
  let v13 : BitVec 32 := Scalar.subi v10 v12
  let v14 : BitVec 1 := Scalar.cmpi .ne v8 v13
  let v15 : BitVec 32 := Scalar.remsi v2 c768_i32
  let c0_i32_3 : BitVec 32 := 0#32
  let v16 : BitVec 1 := Scalar.cmpi .ne v15 c0_i32_3
  let v17 : BitVec 1 := Scalar.andi v14 v16
  let v3 : BitVec 32 := Scalar.divsi v2 c768_i32
  let c1_i32 : BitVec 32 := 1#32
  let v18 : BitVec 32 := Scalar.subi v3 c1_i32
  let v19 : BitVec 32 := Scalar.select v17 v18 v3
  let v20 : BitVec 32 := Scalar.muli c2_i32_4 v19
  let c768_i32_5 : BitVec 32 := 768#32
  let v21 : BitVec 32 := Scalar.muli v20 c768_i32_5
  let c767_i32 : BitVec 32 := 767#32
  let v22 : BitVec 32 := Scalar.addi v21 c767_i32
  let c4_i32_486 : BitVec 32 := 4#32
  let c0_i32_324 : BitVec 32 := 0#32
  let c1_i32_325 : BitVec 32 := 1#32
  let arg16 : BitVec 32 := Scf.iv c0_i32_324 c1_i32_325 k0_t1
  let c4_i32_485 : BitVec 32 := 4#32
  let v288 : BitVec 32 := Scalar.muli arg16 c4_i32_485
  let v289 : BitVec 32 := Scalar.addi c4_i32_486 v288
  let v290 : BitVec 32 := Scalar.addi v289 c0_i32_487
  let c2_i32_505 : BitVec 32 := 2#32
  let v302 : BitVec 32 := Scalar.addi v290 c2_i32_505
  let c4_i32_506 : BitVec 32 := 4#32
  let v303 : BitVec 32 := Scalar.muli v302 c4_i32_506
  let v304 : BitVec 32 := Scalar.addi v2 v303
  let v305 : BitVec 32 := Scalar.subi v22 v304
  let v306 : BitVec 32 := Scalar.subi v305 c0_i32_507
  let c0_i32_511 : BitVec 32 := 0#32
  let c0_i32_512 : BitVec 32 := 0#32
  ![v306.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x768x56x56 : Shape := ⟨4, ![16, 768, 56, 56]⟩
abbrev S768 : Shape := ⟨1, ![768]⟩
abbrev S_ : Shape := ⟨0, ![]⟩
abbrev S768x1 : Shape := ⟨2, ![768, 1]⟩
abbrev S1 : Shape := ⟨1, ![1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x768x56x56, .f32⟩
  | .hbm, ⟨1, _⟩ => ⟨S768, .i32⟩
  | .hbm, ⟨2, _⟩ => ⟨S_, .i32⟩
  | .hbm, ⟨3, _⟩ => ⟨S768, .i32⟩
  | .hbm, ⟨4, _⟩ => ⟨S768, .i32⟩
  | .hbm, ⟨5, _⟩ => ⟨S_, .i32⟩
  | .hbm, ⟨6, _⟩ => ⟨S768, .i32⟩
  | .hbm, ⟨7, _⟩ => ⟨S768, .i32⟩
  | .hbm, ⟨8, _⟩ => ⟨S_, .i32⟩
  | .hbm, ⟨9, _⟩ => ⟨S768, .i32⟩
  | .hbm, ⟨10, _⟩ => ⟨S768, .i1⟩
  | .hbm, ⟨11, _⟩ => ⟨S_, .i32⟩
  | .hbm, ⟨12, _⟩ => ⟨S768, .i32⟩
  | .hbm, ⟨13, _⟩ => ⟨S768, .i32⟩
  | .hbm, ⟨14, _⟩ => ⟨S768, .i32⟩
  | .hbm, ⟨15, _⟩ => ⟨S768x1, .i32⟩
  | .hbm, ⟨16, _⟩ => ⟨S1, .i32⟩
  | .hbm, ⟨17, _⟩ => ⟨S_, .i32⟩
  | .hbm, ⟨18, _⟩ => ⟨S768x1, .i32⟩
  | .hbm, ⟨19, _⟩ => ⟨S768x1, .i1⟩
  | .hbm, ⟨20, _⟩ => ⟨S1x1, .i32⟩
  | .hbm, ⟨21, _⟩ => ⟨S768x1, .i32⟩
  | .hbm, ⟨22, _⟩ => ⟨S768x1, .i1⟩
  | .hbm, ⟨23, _⟩ => ⟨S768x1, .i1⟩
  | .hbm, ⟨24, _⟩ => ⟨S_, .i1⟩
  | .hbm, ⟨25, _⟩ => ⟨S768, .i1⟩
  | .hbm, ⟨26, _⟩ => ⟨S16x768x56x56, .f32⟩
  | .hbm, ⟨27, _⟩ => ⟨S16x768x56x56, .i1⟩
  | .hbm, ⟨28, _⟩ => ⟨S_, .f32⟩
  | .hbm, ⟨29, _⟩ => ⟨S16x768x56x56, .f32⟩
  | .hbm, ⟨30, _⟩ => ⟨S16x768x56x56, .f32⟩
  | _, _ => ⟨S16x768x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.RingIdeal.lean ====
/-
  The tile task of the image reversal as a ring of four slots.

  The printed function is one long list of copies and waits, cut into parts of equal length. Here the
  same list is written with the words of the algorithm: a chunk is four images; a slot is a staging
  slab and its two semaphores; `issueIn` starts the four reversed image copies of a chunk, `waitIn`
  waits for the four at once, `issueOut` starts the copy of the slab to the output, `waitOut` waits
  for it. `ring_eq` says the printed function is this program, and the closed forms of the offsets
  say which images each copy touches.
-/
module

public import proofs.«01_k».proof.Proof.Gen.KernelIdeal
public import proofs.«01_k».proof.Proof.Gen.KernelIdeal.Skeleton
public import Idealize.ShloMosaic.Lib.Scf

@[expose] public section

noncomputable section

namespace Cert.Proof.KernelIdeal

open Cert.KernelIdeal Cert.KernelIdeal.Gen
open Idealize.ShloMosaic Idealize.SL.Sem

variable {F : FTy → Type} [FloatOps F]

/-! ## Which images a chunk is -/

/-- The first output image of a tile: 384 images per tile, two tiles per subcore. -/
abbrev base (i : grid0.Coords) : Nat := 768 * (i 1).val + 384 * (i 0).val
/-- The input image that goes to the tile's first output image. -/
abbrev top (i : grid0.Coords) : Nat := 768 * (i 1).val + 767 - 384 * (i 0).val

/-- Where image `j` of chunk `g` is read. -/
abbrev inAt (i : grid0.Coords) (g : Nat) (j : Fin 4) : Fin 3 → Nat := ![top i - (4 * g + j.val), 0, 0]
/-- Where chunk `g` is written. -/
abbrev outAt (i : grid0.Coords) (g : Nat) : Fin 3 → Nat := ![base i + 4 * g, 0, 0]

abbrev InB1 (o : Fin 3 → Nat) : Prop := ∀ a, o a + S1x56x56.size a ≤ S12288x56x56.size a
abbrev InB4 (o : Fin 3 → Nat) : Prop := ∀ a, o a + S4x56x56.size a ≤ S12288x56x56.size a

theorem lt_core (i : grid0.Coords) : (i 0).val < 2 := (i 0).isLt
theorem lt_sub (i : grid0.Coords) : (i 1).val < 16 := (i 1).isLt

theorem inAt_inb (i : grid0.Coords) (g : Nat) (j : Fin 4) : InB1 (inAt i g j) := by
  have := lt_core i; have := lt_sub i
  intro a; fin_cases a
  · show 768 * (i 1).val + 767 - 384 * (i 0).val - (4 * g + j.val) + 1 ≤ 12288; omega
  · show 0 + 56 ≤ 56; omega
  · show 0 + 56 ≤ 56; omega

theorem outAt_inb (i : grid0.Coords) (g : Nat) (hg : g < 96) : InB4 (outAt i g) := by
  have := lt_core i; have := lt_sub i
  intro a; fin_cases a
  · show 768 * (i 1).val + 384 * (i 0).val + 4 * g + 4 ≤ 12288; omega
  · show 0 + 56 ≤ 56; omega
  · show 0 + 56 ≤ 56; omega

/-! ## The printed offsets -/

set_option maxRecDepth 100000 in
theorem off1_val : ∀ (i : grid0.Coords) (r : Fin 32) (a : Fin 3),
    k0_off1 i (k0_off1_at r).1 (k0_off1_at r).2
      a = (![top i - ((k0_off1_at r).1.toNat + (k0_off1_at r).2.toNat), 0, 0] : Fin 3 → Nat) a := by
  decide +kernel
set_option maxRecDepth 100000 in
theorem off2_val : ∀ (i : grid0.Coords) (r : Fin 10) (a : Fin 3),
    k0_off2 i (k0_off2_at r) a = (![base i + (k0_off2_at r).toNat, 0, 0] : Fin 3 → Nat) a := by
  decide +kernel
set_option maxRecDepth 100000 in
theorem off5_val : ∀ (i : grid0.Coords) (t : Fin k0_t1_loop.trips) (r j : Fin 4) (a : Fin 3),
    k0_off5 i t (BitVec.ofNat 32 r.val) (BitVec.ofNat 32 j.val) a = inAt i (4 * t.val + 6 + r.val) j a := by
  decide +kernel

/-! ## The ring -/

abbrev Img := Memref sig .scVector .hbm S12288x56x56 .f32
abbrev Slab := Memref sig .scVector .vmem S4x56x56 .f32

/-- A slot of the ring: the staging slab, the semaphore of the copies into it, the semaphore of the
    copy out of it. -/
structure Slot where
  buf : Slab
  sin : DmaSem sig
  sout : DmaSem sig

/-- One image of the input or output; four images of the output; one image of a slab. -/
abbrev img1 (a : Img) (o : Fin 3 → Nat) (h : InB1 o) : Memref sig .scVector .hbm S1x56x56 .f32 :=
  a.slice (Rect.unit (s := S12288x56x56) o S1x56x56.size h) (fun _ => rfl)
abbrev img4 (a : Img) (o : Fin 3 → Nat) (h : InB4 o) : Memref sig .scVector .hbm S4x56x56 .f32 :=
  a.slice (Rect.unit (s := S12288x56x56) o S4x56x56.size h) (fun _ => rfl)
theorem slab_inb (j : Fin 4) : ∀ a, (![j.val, 0, 0] : Fin 3 → Nat) a + S1x56x56.size a ≤ S4x56x56.size a := by
  intro a; fin_cases a
  · show j.val + 1 ≤ 4; omega
  · show 0 + 56 ≤ 56; omega
  · show 0 + 56 ≤ 56; omega
abbrev slab1 (b : Slab) (j : Fin 4) : Memref sig .scVector .vmem S1x56x56 .f32 :=
  b.slice (Rect.unit (s := S4x56x56) ![j.val, 0, 0] S1x56x56.size (slab_inb j)) (fun _ => rfl)

abbrev TProg (F : FTy → Type) (i : grid0.Coords) (α : Type) : Type _ :=
  Prog (TpuEff nD τ sig (Elt F) Λ₀ (.scVector ((i 0).castLE hcore0) ((i 1).castLE hsub0))) α

variable (i : grid0.Coords)

/-- Start the copy of one image into a slab. -/
def copyIn (a : Img) (s : Slot) (o : Fin 3 → Nat) (h : InB1 o) (j : Fin 4) : TProg F i PUnit :=
  Prog.lift (.enqueueDma (img1 a o h) (.here (slab1 s.buf j)) (.dma s.sin) (View.wordExact_bits rfl) (View.wordExact_bits rfl) ⟨Or.inl rfl, trivial⟩)
/-- Start the four copies of a chunk. -/
def issueIn (a : Img) (s : Slot) (o : Fin 4 → Fin 3 → Nat) (h : ∀ j, InB1 (o j)) : TProg F i PUnit := do
  copyIn i a s (o 0) (h 0) 0
  copyIn i a s (o 1) (h 1) 1
  copyIn i a s (o 2) (h 2) 2
  copyIn i a s (o 3) (h 3) 3
/-- Wait for the four copies of a chunk at once. -/
def waitIn (a : Img) (s : Slot) : TProg F i PUnit :=
  Prog.lift (.waitDma2 s.sin (img4 a ![0, 0, 0] inb_S12288x56x56_S4x56x56_0_0_0) s.buf (View.wordExact_bits rfl) (View.wordExact_bits rfl))
/-- Start the copy of a slab to the output. -/
def issueOut (b : Img) (s : Slot) (o : Fin 3 → Nat) (h : InB4 o) : TProg F i PUnit :=
  Prog.lift (.enqueueDma s.buf (.here (img4 b o h)) (.dma s.sout) (View.wordExact_bits rfl) (View.wordExact_bits rfl) ⟨Or.inl rfl, trivial⟩)
/-- Wait for the copy of a slab to the output. -/
def waitOut (b : Img) (s : Slot) (o : Fin 3 → Nat) (h : InB4 o) : TProg F i PUnit :=
  Prog.lift (.waitDma2 s.sout s.buf (img4 b o h) (View.wordExact_bits rfl) (View.wordExact_bits rfl))

/-- A full turn: chunk `g` arrives in `s` and leaves for the output; `s'` gives up chunk `g - 2` and is
    filled with chunk `g + 2`. -/
def turn (a b : Img) (s s' : Slot) (oO : Fin 3 → Nat) (hO : InB4 oO) (oW : Fin 3 → Nat) (hW : InB4 oW)
    (oI : Fin 4 → Fin 3 → Nat) (hI : ∀ j, InB1 (oI j)) : TProg F i PUnit := do
  waitIn i a s
  issueOut i b s oO hO
  waitOut i b s' oW hW
  issueIn i a s' oI hI

/-- Four turns: a trip of the loop. -/
def trip (a b : Img) (s₀ s₁ s₂ s₃ : Slot) (t : Fin k0_t1_loop.trips) : TProg F i PUnit := do
  turn i a b s₀ s₂ (k0_off3 i t 0#32) (k0_off3_inb i t 0) (k0_off4 i t 0#32) (k0_off4_inb i t 0)
    (fun j => k0_off5 i t 0#32 (BitVec.ofNat 32 j.val)) (k0_off5_inb i t 0)
  turn i a b s₁ s₃ (k0_off3 i t 1#32) (k0_off3_inb i t 1) (k0_off4 i t 1#32) (k0_off4_inb i t 1)
    (fun j => k0_off5 i t 1#32 (BitVec.ofNat 32 j.val)) (k0_off5_inb i t 1)
  turn i a b s₂ s₀ (k0_off3 i t 2#32) (k0_off3_inb i t 2) (k0_off4 i t 2#32) (k0_off4_inb i t 2)
    (fun j => k0_off5 i t 2#32 (BitVec.ofNat 32 j.val)) (k0_off5_inb i t 2)
  turn i a b s₃ s₁ (k0_off3 i t 3#32) (k0_off3_inb i t 3) (k0_off4 i t 3#32) (k0_off4_inb i t 3)
    (fun j => k0_off5 i t 3#32 (BitVec.ofNat 32 j.val)) (k0_off5_inb i t 3)

/-- The rows of the offset table that a chunk's four images are. -/
theorem off1_inb4 (c : BitVec 32) (r : Fin 8) (hr : ∀ j : Fin 4, k0_off1_at ⟨4 * r.val + j.val, by omega⟩ = (c, BitVec.ofNat 32 j.val)) :
    ∀ j : Fin 4, InB1 (k0_off1 i c (BitVec.ofNat 32 j.val)) := by
  intro j
  have := k0_off1_inb i ⟨4 * r.val + j.val, by omega⟩
  rw [hr j] at this
  exact this

/-- What comes before the loop: chunks 0 to 3 are started, 0 and 1 leave, and two full turns. -/
def prologue (a b : Img) (s₀ s₁ s₂ s₃ : Slot) : TProg F i PUnit := do
  issueIn i a s₀ (fun j => k0_off1 i 0#32 (BitVec.ofNat 32 j.val)) (off1_inb4 i _ 0 (by decide))
  issueIn i a s₁ (fun j => k0_off1 i 4#32 (BitVec.ofNat 32 j.val)) (off1_inb4 i _ 1 (by decide))
  issueIn i a s₂ (fun j => k0_off1 i 8#32 (BitVec.ofNat 32 j.val)) (off1_inb4 i _ 2 (by decide))
  issueIn i a s₃ (fun j => k0_off1 i 12#32 (BitVec.ofNat 32 j.val)) (off1_inb4 i _ 3 (by decide))
  waitIn i a s₀
  issueOut i b s₀ (k0_off2 i 0#32) (k0_off2_inb i 0)
  waitIn i a s₁
  issueOut i b s₁ (k0_off2 i 4#32) (k0_off2_inb i 1)
  turn i a b s₂ s₀ (k0_off2 i 8#32) (k0_off2_inb i 2) (k0_off2 i 0#32) (k0_off2_inb i 0)
    (fun j => k0_off1 i 16#32 (BitVec.ofNat 32 j.val)) (off1_inb4 i _ 4 (by decide))
  turn i a b s₃ s₁ (k0_off2 i 12#32) (k0_off2_inb i 3) (k0_off2 i 4#32) (k0_off2_inb i 1)
    (fun j => k0_off1 i 20#32 (BitVec.ofNat 32 j.val)) (off1_inb4 i _ 5 (by decide))

/-- What comes after the loop: two full turns, then the last two chunks leave and the ring drains. -/
def epilogue (a b : Img) (s₀ s₁ s₂ s₃ : Slot) : TProg F i PUnit := do
  turn i a b s₀ s₂ (k0_off2 i 368#32) (k0_off2_inb i 4) (k0_off2 i 360#32) (k0_off2_inb i 5)
    (fun j => k0_off1 i 376#32 (BitVec.ofNat 32 j.val)) (off1_inb4 i _ 6 (by decide))
  turn i a b s₁ s₃ (k0_off2 i 372#32) (k0_off2_inb i 6) (k0_off2 i 364#32) (k0_off2_inb i 7)
    (fun j => k0_off1 i 380#32 (BitVec.ofNat 32 j.val)) (off1_inb4 i _ 7 (by decide))
  waitIn i a s₂
  issueOut i b s₂ (k0_off2 i 376#32) (k0_off2_inb i 8)
  waitOut i b s₀ (k0_off2 i 368#32) (k0_off2_inb i 4)
  waitIn i a s₃
  issueOut i b s₃ (k0_off2 i 380#32) (k0_off2_inb i 9)
  waitOut i b s₁ (k0_off2 i 372#32) (k0_off2_inb i 6)
  waitOut i b s₂ (k0_off2 i 376#32) (k0_off2_inb i 8)
  waitOut i b s₃ (k0_off2 i 380#32) (k0_off2_inb i 9)

/-- The whole task. -/
def ring (a b : Img) (s₀ s₁ s₂ s₃ : Slot) : TProg F i PUnit := do
  prologue i a b s₀ s₁ s₂ s₃
  Scf.Loop.for k0_t1_loop k0_t1_ok ⟨⟩ (fun t (_ : PUnit) => trip i a b s₀ s₁ s₂ s₃ t)
  epilogue i a b s₀ s₁ s₂ s₃

/-! ## The printed function is the ring -/

theorem bind_assoc' {E : Type → Type _} {α β γ : Type} (x : Prog E α) (f : α → Prog E β) (k : β → Prog E γ) :
    (x >>= f) >>= k = x >>= fun y => f y >>= k := by
  induction x with
  | ret y => rfl
  | op e c ih => exact congrArg (Prog.op e) (funext ih)
theorem pure_bind' {E : Type → Type _} {α β : Type} (x : α) (k : α → Prog E β) :
    (pure x >>= k : Prog E β) = k x := rfl

section Eq
variable (arg2 : Img) (harg2 : arg2.IsWhole) (arg3 : Img) (harg3 : arg3.IsWhole) (arg4 : Slab) (harg4 : arg4.IsWhole)
  (arg5 : Slab) (harg5 : arg5.IsWhole) (arg6 : Slab) (harg6 : arg6.IsWhole) (arg7 : Slab) (harg7 : arg7.IsWhole)
  (arg8 arg9 arg10 arg11 arg12 arg13 arg14 arg15 : DmaSems sig S_)

set_option maxRecDepth 65536 in
theorem trip_eq (v2 v22 v174 : BitVec 32) (t : Fin k0_t1_loop.trips) (u : PUnit) :
    k0_t1_body (F := F) i arg2 harg2 arg3 harg3 arg4 harg4 arg5 harg5 arg6 harg6 arg7 harg7 arg8 arg9 arg10 arg11 arg12 arg13 arg14 arg15 v2 v22 v174 t u
      = trip i arg2 arg3 ⟨arg4, arg8.sem, arg12.sem⟩ ⟨arg5, arg9.sem, arg13.sem⟩ ⟨arg6, arg10.sem, arg14.sem⟩ ⟨arg7, arg11.sem, arg15.sem⟩ t := by
  unfold k0_t1_body
  simp only [k0_part1_eq_skeleton, k0_part2_eq_skeleton, k0_part3_eq_skeleton, k0_part4_eq_skeleton, k0_part5_eq_skeleton, k0_part6_eq_skeleton, k0_part7_eq_skeleton]
  rfl

set_option maxRecDepth 65536 in
theorem ring_eq :
    cc0__reverse_images (F := F) i arg2 harg2 arg3 harg3 arg4 harg4 arg5 harg5 arg6 harg6 arg7 harg7 arg8 arg9 arg10 arg11 arg12 arg13 arg14 arg15
      = ring i arg2 arg3 ⟨arg4, arg8.sem, arg12.sem⟩ ⟨arg5, arg9.sem, arg13.sem⟩ ⟨arg6, arg10.sem, arg14.sem⟩ ⟨arg7, arg11.sem, arg15.sem⟩ := by
  rw [cc0__reverse_images_eq_skeleton]
  unfold cc0__reverse_images_skel
  simp only [k0_part8_eq_skeleton, k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton, k0_part19_eq_skeleton,
    k0_part20_eq_skeleton, k0_part21_eq_skeleton]
  simp only [k0_part8_skel, k0_part9_skel, k0_part10_skel, k0_part11_skel, k0_part12_skel, k0_part13_skel, k0_part14_skel, k0_part15_skel, k0_part16_skel,
    k0_part17_skel, k0_part18_skel, k0_part19_skel, k0_part20_skel, k0_part21_skel, bind_assoc', pure_bind']
  simp only [ring, prologue, epilogue, turn, issueIn, bind_assoc', pure_bind']
  rw [show k0_t1_body (F := F) i arg2 harg2 arg3 harg3 arg4 harg4 arg5 harg5 arg6 harg6 arg7 harg7 arg8 arg9 arg10 arg11 arg12 arg13 arg14 arg15 _ _ _ = _ from
    funext fun t => funext fun u => trip_eq i arg2 harg2 arg3 harg3 arg4 harg4 arg5 harg5 arg6 harg6 arg7 harg7 arg8 arg9 arg10 arg11 arg12 arg13 arg14 arg15 _ _ _ t u]
  rfl
end Eq

end Cert.Proof.KernelIdeal

end
-- ==== Proof.MovesIdeal.lean ====
/-
  The moves of one tile's ring, as rules of the program logic.

  A tile owns the images it reads, the images it writes, four slabs and their semaphores. A slot is
  FREE, holds four copies IN FLIGHT from the input (`Arriving`), or one copy in flight to the output
  (`Leaving`). `wp_issueIn`, `wp_waitIn`, `wp_issueOut` and `wp_waitOut` take a slot round these
  states; the four copies of a chunk share one semaphore, which one wait takes down at once, so they
  are a batch whose deliveries are stated when it is opened.
-/
module

public import proofs.«01_k».proof.Defs
public import proofs.«01_k».proof.Proof.RingIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra -/

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb (U := UU)
abbrev 𝒱₀ : Variants := Variants.none

/-! ## Images and their reversal -/

abbrev aV : Img := Memref.whole main_v0_scv
abbrev bV : Img := Memref.whole main_v1_scv
abbrev aLoc (d : Dev nD) : Loc nD τ sig := (SparseCore.T d).loc main_v0
abbrev bLoc (d : Dev nD) : Loc nD τ sig := (SparseCore.T d).loc main_v1

/-- The images `r, …, r + n - 1`. -/
def images (r n : Nat) : Finset S12288x56x56.Idx := Finset.univ.filter fun x => r ≤ (x 0).val ∧ (x 0).val < r + n

theorem mem_images {r n : Nat} {x : S12288x56x56.Idx} : x ∈ images r n ↔ r ≤ (x 0).val ∧ (x 0).val < r + n := by
  simp [images]

theorem images_disjoint {r n r' n' : Nat} (h : r + n ≤ r' ∨ r' + n' ≤ r) : Disjoint (images r n) (images r' n') :=
  Finset.disjoint_left.mpr fun x hx hy => by
    have := mem_images.mp hx; have := mem_images.mp hy; omega

theorem set_img1 (r : Nat) (h : InB1 ![r, 0, 0]) : (img1 aV ![r, 0, 0] h).view.set = images r 1 := by
  show ((View.whole (main_v0_scv : Ref sig .scVector)).slice _).set = _
  rw [View.set_slice_whole]
  ext x
  rw [Rect.mem_set_unit, mem_images]
  refine ⟨fun hx => hx 0, fun hx a => ?_⟩
  fin_cases a
  · exact hx
  · exact ⟨Nat.zero_le _, (Nat.zero_add 56).symm ▸ (x 1).isLt⟩
  · exact ⟨Nat.zero_le _, (Nat.zero_add 56).symm ▸ (x 2).isLt⟩

theorem set_img4 (r : Nat) (h : InB4 ![r, 0, 0]) : (img4 bV ![r, 0, 0] h).view.set = images r 4 := by
  show ((View.whole (main_v1_scv : Ref sig .scVector)).slice _).set = _
  rw [View.set_slice_whole]
  ext x
  rw [Rect.mem_set_unit, mem_images]
  refine ⟨fun hx => hx 0, fun hx a => ?_⟩
  fin_cases a
  · exact hx
  · exact ⟨Nat.zero_le _, (Nat.zero_add 56).symm ▸ (x 1).isLt⟩
  · exact ⟨Nat.zero_le _, (Nat.zero_add 56).symm ▸ (x 2).isLt⟩

/-- Image `r` of the output is image `revRow r` of the input: the same batch entry, the channels turned
    round. -/
def revRow (r : Nat) : Nat := 768 * (r / 768) + 767 - r % 768
theorem revRow_lt (r : Nat) (h : r < 12288) : revRow r < 12288 := by unfold revRow; omega
def rev (x : S12288x56x56.Idx) : S12288x56x56.Idx := Function.update x 0 ⟨revRow (x 0).val, revRow_lt _ (x 0).isLt⟩
theorem rev_zero (x : S12288x56x56.Idx) : (rev x 0).val = revRow (x 0).val := by rw [rev, Function.update_self]
theorem rev_one (x : S12288x56x56.Idx) : rev x 1 = x 1 := Function.update_of_ne (by decide) _ _
theorem rev_two (x : S12288x56x56.Idx) : rev x 2 = x 2 := Function.update_of_ne (by decide) _ _

/-- The output the kernel computes from the input `fa`. -/
def reversed {α : Type} (fa : S12288x56x56.Idx → α) : S12288x56x56.Idx → α := fun x => fa (rev x)

/-! ## One tile -/

abbrev cV (i : grid0.Coords) : Fin τ.nSC := (i 0).castLE hcore0
abbrev jV (i : grid0.Coords) : Fin τ.nSub := (i 1).castLE hsub0
abbrev VT (d : Dev nD) (i : grid0.Coords) : Thread nD τ := V d (cV i) (jV i)

variable [FloatOps F] (d : Dev nD) (i : grid0.Coords)
variable (fa : Buf (Elt F) (aLoc d)) (fb : Buf (Elt F) (bLoc d))

/-- The input images of chunk `g`; the output images of chunk `g`, at contents `f`. -/
abbrev inImg (g : Nat) (j : Fin 4) : sProp 𝕄 := aLoc d ↦[images (top i - (4 * g + j.val)) 1]{fullShare} fa
abbrev inChunk (g : Nat) : sProp 𝕄 := bigSep Finset.univ fun j : Fin 4 => inImg d i fa g j
abbrev outChunk (g : Nat) (f : Buf (Elt F) (bLoc d)) : sProp 𝕄 := bLoc d ↦[images (base i + 4 * g) 4]{fullShare} f
/-- The output reversed. -/
abbrev fr : Buf (Elt F) (bLoc d) := reversed fa

/-- The four images of chunk `g` as they stand in a slab and in the output. -/
def chunk (g : Nat) (hg : g < 96) : S4x56x56.Idx → Elt F .f32 :=
  (img4 bV (outAt i g) (outAt_inb i g hg)).view.read (Elt F) (fr d fa)

/-- A slab at contents `f`. -/
abbrev slab (s : Slot) (f : Buf (Elt F) (s.buf.view.loc (VT d i))) : sProp 𝕄 :=
  s.buf.view.loc (VT d i) ↦[s.buf.view.set]{fullShare} f
/-- A slab's contents `f` overwritten by chunk `g`. -/
abbrev filled (s : Slot) (f : Buf (Elt F) (s.buf.view.loc (VT d i))) (g : Nat) (hg : g < 96) : Buf (Elt F) (s.buf.view.loc (VT d i)) :=
  s.buf.view.write (Elt F) f (chunk d i fa g hg) Finset.univ
/-- Image `j` of a slab. -/
abbrev slabImg (s : Slot) (j : Fin 4) (f : Buf (Elt F) (s.buf.view.loc (VT d i))) : sProp 𝕄 :=
  s.buf.view.loc (VT d i) ↦[(slab1 s.buf j).view.set]{fullShare} f

omit [FloatOps F] in
/-- Image `j` of chunk `g`, as the input copy reads it, is image `j` of the chunk. -/
theorem read_img1 (g : Nat) (hg : g < 96) (j : Fin 4) (x : S1x56x56.Idx) :
    (img1 aV (inAt i g j) (inAt_inb i g j)).view.read (Elt F) fa x
      = chunk d i fa g hg ((Rect.unit (s := S4x56x56) ![j.val, 0, 0] S1x56x56.size (slab_inb j)).emb x) := by
  have h0 := lt_core i; have h1 := lt_sub i; have hx : (x 0).val < 1 := (x 0).isLt; have hj := j.isLt
  show fa _ = fa (rev _)
  congr 1
  funext a
  fin_cases a
  · refine Fin.ext ?_
    refine Eq.trans ?_ (rev_zero _).symm
    show top i - (4 * g + j.val) + 1 * (x 0).val = revRow (base i + 4 * g + 1 * (j.val + 1 * (x 0).val))
    unfold revRow top base
    omega
  · refine Fin.ext ?_
    refine Eq.trans ?_ (congrArg Fin.val (rev_one _)).symm
    show 0 + 1 * (x 1).val = 0 + 1 * (0 + 1 * (x 1).val)
    omega
  · refine Fin.ext ?_
    refine Eq.trans ?_ (congrArg Fin.val (rev_two _)).symm
    show 0 + 1 * (x 2).val = 0 + 1 * (0 + 1 * (x 2).val)
    omega

/-- What the copy of image `j` leaves in the slab is what `filled` has there. -/
theorem landed (s : Slot) (f : Buf (Elt F) (s.buf.view.loc (VT d i))) (g : Nat) (hg : g < 96) (j : Fin 4) :
    ((slab1 s.buf j).view.loc (VT d i) ↦[(slab1 s.buf j).view.set]{fullShare}
        (slab1 s.buf j).view.write (Elt F) f (ReadAs.same.apply ((img1 aV (inAt i g j) (inAt_inb i g j)).view.read (Elt F) fa)) Finset.univ : sProp 𝕄)
      = slabImg d i s j (filled d i fa s f g hg) := by
  refine pointsTo_congr fun y hy => ?_
  obtain ⟨x, -, rfl⟩ := Finset.mem_map.mp hy
  rw [View.write_emb_of_mem _ _ (Finset.mem_univ x)]
  show _ = s.buf.view.write (Elt F) f (chunk d i fa g hg) Finset.univ (s.buf.view.emb ((Rect.unit (s := S4x56x56) ![j.val, 0, 0] S1x56x56.size (slab_inb j)).emb x))
  rw [View.write_emb_of_mem _ _ (Finset.mem_univ _), ← read_img1 d i fa g hg j x]

omit [FloatOps F] in
/-- What the copy of a filled slab leaves in the output is the reversed input. -/
theorem landed_out (s : Slot) (f : Buf (Elt F) (s.buf.view.loc (VT d i))) (g : Nat) (hg : g < 96) :
    ((img4 bV (outAt i g) (outAt_inb i g hg)).view.loc (VT d i) ↦[(img4 bV (outAt i g) (outAt_inb i g hg)).view.set]{fullShare}
        (img4 bV (outAt i g) (outAt_inb i g hg)).view.write (Elt F) fb (ReadAs.same.apply (s.buf.view.read (Elt F) (filled d i fa s f g hg))) Finset.univ : sProp 𝕄)
      = outChunk d i g (fr d fa) := by
  rw [View.read_write_univ]
  refine Eq.trans (pointsTo_congr (g := fr d fa) fun y hy => ?_) (by rw [set_img4])
  obtain ⟨x, -, rfl⟩ := Finset.mem_map.mp hy
  rw [View.write_emb_of_mem _ _ (Finset.mem_univ x)]
  rfl

theorem set_slab1 (s : Slot) (j : Fin 4) :
    (slab1 s.buf j).view.set = (Rect.unit (s := S4x56x56) ![j.val, 0, 0] S1x56x56.size (slab_inb j)).set.map s.buf.view.emb :=
  View.set_slice _ _

omit [FloatOps F] in
/-- A slab is its four images. -/
theorem slab_images (s : Slot) (f : Buf (Elt F) (s.buf.view.loc (VT d i))) :
    (slab d i s f : sProp 𝕄) = bigSep Finset.univ fun j : Fin 4 => slabImg d i s j f := by
  have hd : ∀ j ∈ (Finset.univ : Finset (Fin 4)), ∀ k ∈ (Finset.univ : Finset (Fin 4)), j ≠ k → Disjoint (slab1 s.buf j).view.set (slab1 s.buf k).view.set := by
    intro j _ k _ h
    rw [set_slab1, set_slab1]
    refine (Finset.disjoint_map _).mpr (Rect.unit_disjoint 0 ?_)
    have : j.val ≠ k.val := fun e => h (Fin.ext e)
    show j.val + 1 ≤ k.val ∨ k.val + 1 ≤ j.val
    omega
  have hc : (Finset.univ : Finset (Fin 4)).biUnion (fun j => (slab1 s.buf j).view.set) = s.buf.view.set := by
    refine Finset.Subset.antisymm (Finset.biUnion_subset.mpr fun j _ => View.set_slice_subset _ _) fun y hy => ?_
    obtain ⟨x, -, rfl⟩ := Finset.mem_map.mp hy
    refine Finset.mem_biUnion.mpr ⟨⟨(x 0).val, (x 0).isLt⟩, Finset.mem_univ _, ?_⟩
    rw [set_slab1]
    refine Finset.mem_map_of_mem _ ?_
    rw [Rect.mem_set_unit]
    intro a
    fin_cases a
    · exact ⟨Nat.le_refl _, Nat.lt_succ_self _⟩
    · exact ⟨Nat.zero_le _, (Nat.zero_add 56).symm ▸ (x 1).isLt⟩
    · exact ⟨Nat.zero_le _, (Nat.zero_add 56).symm ▸ (x 2).isLt⟩
  rw [slab, ← hc]
  exact pointsTo_biUnion Finset.univ _ hd

/-! ## The states of a slot -/

/-- What one image copy, and the copy of a slab out, credit their semaphore. -/
abbrev N1 : ℕ := (slab1 (Memref.whole cc0_scratch0) 0).view.dmaCredit
abbrev N4 : ℕ := (img4 bV ![0, 0, 0] inb_S12288x56x56_S4x56x56_0_0_0).view.dmaCredit

theorem N1_pos : 0 < N1 := View.dmaCredit_pos _ (by decide)
theorem N4_pos : 0 < N4 := View.dmaCredit_pos _ (by decide)

/-- The credits of a slot's slab: four images make the slab. -/
structure Slot.Ok (s : Slot) : Prop where
  one : ∀ j, (slab1 s.buf j).view.dmaCredit = N1
  all : s.buf.view.dmaCredit = N1 * 4

/-- What the four copies of chunk `g` deliver: the slab's images filled, the input's images back. -/
def arrives (s : Slot) (f : Buf (Elt F) (s.buf.view.loc (VT d i))) (g : Nat) (hg : g < 96) (j : Fin 4) : sProp 𝕄 :=
  iprop(slabImg d i s j (filled d i fa s f g hg) ∗ inImg d i fa g j)

instance arrives_storable (s : Slot) (f : Buf (Elt F) (s.buf.view.loc (VT d i))) (g : Nat) (hg : g < 96) (j : Fin 4) :
    Storable (upEmb : UEmb _ 𝕄) (arrives d i fa s f g hg j) := by unfold arrives; infer_instance

/-- The slot is free. -/
def Free (s : Slot) : sProp 𝕄 :=
  iprop(∃ f, slab d i s f ∗ semVal (VT d i, .dma s.sin) 0 ∗ semVal (VT d i, .dma s.sout) 0)
/-- Chunk `g` is on its way into the slot. -/
def Arriving (s : Slot) (g : Nat) : sProp 𝕄 :=
  iprop(∃ hg : g < 96, ∃ f, Transfers.Batch EC (VT d i) (.dma s.sin) (default : HIx 1) N1 (arrives d i fa s f g hg) 4 0
    ∗ semVal (VT d i, .dma s.sout) 0)
/-- Chunk `g` has arrived in the slot. -/
def Arrived (s : Slot) (g : Nat) : sProp 𝕄 :=
  iprop(∃ hg : g < 96, ∃ f, slab d i s (filled d i fa s f g hg) ∗ semVal (VT d i, .dma s.sin) 0 ∗ semVal (VT d i, .dma s.sout) 0)
/-- Chunk `g` is on its way from the slot to the output. -/
def Leaving (s : Slot) (g : Nat) : sProp 𝕄 :=
  iprop(∃ f, Transfers.Flight EC (VT d i) (.dma s.sout) (default : HIx 1) N4 iprop(outChunk d i g (fr d fa) ∗ slab d i s f)
    ∗ semVal (VT d i, .dma s.sin) 0)

/-- What the tile owes its waits' schedule: the obligations it came with. -/
abbrev Owing (O : CellTallies nD τ sig (HIx 1)) : sProp 𝕄 := iprop(∃ W', owes (VT d i) O W')
abbrev MayW (O : CellTallies nD τ sig (HIx 1)) : sProp 𝕄 := Transfers.MayWaits (VT d i) (default : HIx 1) O

/-! ## The moves -/

section Rules

variable (O : CellTallies nD τ sig (HIx 1))

local notation "WP" => wp frame (wpE (defs₀ (F := F)) 𝒱₀ (VT d i) none) Set.univ

theorem inImg_eq (g : Nat) (j : Fin 4) :
    (inImg d i fa g j : sProp 𝕄)
      = (img1 aV (inAt i g j) (inAt_inb i g j)).view.loc (VT d i) ↦[(img1 aV (inAt i g j) (inAt_inb i g j)).view.set]{fullShare} fa := by
  rw [set_img1]
theorem outChunk_eq (g : Nat) (hg : g < 96) (f : Buf (Elt F) (bLoc d)) :
    (outChunk d i g f : sProp 𝕄)
      = (img4 bV (outAt i g) (outAt_inb i g hg)).view.loc (VT d i) ↦[(img4 bV (outAt i g) (outAt_inb i g hg)).view.set]{fullShare} f := by
  rw [set_img4]

theorem bigSep_four (Ψ : Fin 4 → sProp 𝕄) : bigSep Finset.univ Ψ = iprop(Ψ 0 ∗ Ψ 1 ∗ Ψ 2 ∗ Ψ 3) :=
  bigSep_univ_eq_bigSepL [0, 1, 2, 3] (by decide) (by decide) Ψ

/-- One of the four copies of a chunk. -/
theorem wp_copyIn (Q : PUnit → sProp 𝕄) (s : Slot) (hs : s.Ok) (f : Buf (Elt F) (s.buf.view.loc (VT d i))) (g : Nat) (hg : g < 96) (j : Fin 4)
    (o : Fin 3 → Nat) (h : InB1 o) (ho : o = inAt i g j) :
    iprop(inImg d i fa g j ∗ slabImg d i s j f
        ∗ Transfers.Batch EC (VT d i) (.dma s.sin) (default : HIx 1) N1 (arrives d i fa s f g hg) j.val 0)
      ⊢ iprop((Transfers.Batch EC (VT d i) (.dma s.sin) (default : HIx 1) N1 (arrives d i fa s f g hg) (j.val + 1) 0 -∗ Q ⟨⟩)
          -∗ WP (copyIn (F := F) i aV s o h j) Q) := by
  subst ho
  rw [inImg_eq]
  iintro H Hk
  unfold copyIn Prog.lift
  have hD : iprop(((slab1 s.buf j).view.loc (VT d i) ↦[(slab1 s.buf j).view.set]{fullShare}
        (slab1 s.buf j).view.write (Elt F) f (ReadAs.same.apply ((img1 aV (inAt i g j) h).view.read (Elt F) fa)) Finset.univ)
      ∗ ((img1 aV (inAt i g j) h).view.loc (VT d i) ↦[(img1 aV (inAt i g j) h).view.set]{fullShare} fa))
      ⊢ (arrives d i fa s f g hg j : sProp 𝕄) := by
    unfold arrives; rw [landed d i fa s f g hg j, ← inImg_eq]
  iapply (Transfers.wp_dmaBatch (EC (F := F)) 𝒱₀ (VT d i) none (src := img1 aV (inAt i g j) h) (dst := slab1 s.buf j) (sm := .dma s.sin)
    (hsrc := View.wordExact_bits rfl) (hdst := View.wordExact_bits rfl) (hsem := ⟨Or.inl rfl, trivial⟩) (default : HIx 1) N1
    (hs.one j) subset_rfl (D := arrives d i fa s f g hg) (j := j.val) (u := 0) j.isLt (Nat.zero_le _) hD) $$ H
  iintro HB
  sl_step
  iapply Hk
  iexact HB

/-- Fill a free slot: the four copies of chunk `g` are issued. -/
theorem wp_issueIn (Q : PUnit → sProp 𝕄) (s : Slot) (hs : s.Ok) (g : Nat) (hg : g < 96) (o : Fin 4 → Fin 3 → Nat) (h : ∀ j, InB1 (o j)) (ho : ∀ j, o j = inAt i g j) :
    iprop(Free d i s ∗ inChunk d i fa g)
      ⊢ iprop((Arriving d i fa s g -∗ Q ⟨⟩) -∗ WP (issueIn (F := F) i aV s o h) Q) := by
  unfold Free issueIn
  simp only [wp_bind]
  iintro ⟨⟨%f, Hs, Hin, Hout⟩, Ha⟩ Hk
  ihave Hs' := (Entails.of_eq ((slab_images d i s f).trans (bigSep_four _))) $$ Hs
  ihave Ha' := (Entails.of_eq (bigSep_four (fun j : Fin 4 => inImg d i fa g j))) $$ Ha
  icases Hs' with ⟨Hs0, Hs1, Hs2, Hs3⟩
  icases Ha' with ⟨Ha0, Ha1, Ha2, Ha3⟩
  imod (Transfers.batch_alloc' (Lvl := ℕ) (EC (F := F)) (VT d i) (default : HIx 1) N1 (arrives d i fa s f g hg) (sm := .dma s.sin) (E := Set.univ)) $$ Hin with HB
  iapply (wp_copyIn d i fa _ s hs f g hg 0 _ (h 0) (ho 0)) $$ [Ha0 Hs0 HB]
  · isplitl [Ha0]; · iexact Ha0
    isplitl [Hs0]; · iexact Hs0
    iexact HB
  iintro HB
  iapply (wp_copyIn d i fa _ s hs f g hg 1 _ (h 1) (ho 1)) $$ [Ha1 Hs1 HB]
  · isplitl [Ha1]; · iexact Ha1
    isplitl [Hs1]; · iexact Hs1
    iexact HB
  iintro HB
  iapply (wp_copyIn d i fa _ s hs f g hg 2 _ (h 2) (ho 2)) $$ [Ha2 Hs2 HB]
  · isplitl [Ha2]; · iexact Ha2
    isplitl [Hs2]; · iexact Hs2
    iexact HB
  iintro HB
  iapply (wp_copyIn d i fa _ s hs f g hg 3 _ (h 3) (ho 3)) $$ [Ha3 Hs3 HB]
  · isplitl [Ha3]; · iexact Ha3
    isplitl [Hs3]; · iexact Hs3
    iexact HB
  iintro HB
  iapply Hk
  unfold Arriving
  iexists hg, f
  isplitl [HB]; · iexact HB
  iexact Hout

/-- The chunk a slot waits for has arrived: its four input images come back. -/
theorem wp_waitIn (Q : PUnit → sProp 𝕄) (s : Slot) (hs : s.Ok) (g : Nat) :
    iprop(MayW d i O ∗ Arriving d i fa s g ∗ Owing d i O)
      ⊢ iprop((iprop(Arrived d i fa s g ∗ inChunk d i fa g ∗ Owing d i O) -∗ Q ⟨⟩) -∗ WP (waitIn (F := F) i aV s) Q) := by
  unfold Arriving waitIn Prog.lift
  iintro ⟨#Hmw, ⟨%hg, %f, HB, Hout⟩, ⟨%W, HO⟩⟩ Hk
  ihave Hmw' := (Transfers.MayWaits.elim (.dma s.sin)) $$ Hmw
  iapply (Transfers.wp_waitBatchAllO (EC (F := F)) 𝒱₀ (VT d i) none (hsrc := View.wordExact_bits rfl) (hdst := View.wordExact_bits rfl)
    (srcw := img4 aV ![0, 0, 0] inb_S12288x56x56_S4x56x56_0_0_0) (dstw := s.buf) (default : HIx 1) (N := N1) hs.all N1_pos
    (D := arrives d i fa s f g hg) (u := 0) (Nat.zero_add _)) $$ [HB HO Hmw']
  · isplitl [HB]; · iexact HB
    isplitl [HO]; · iexact HO
    iexact Hmw'
  iintro ⟨HD, Hin, HO⟩
  sl_step
  iapply Hk
  ihave HD' := (Entails.of_eq (show bigSep Finset.univ (arrives d i fa s f g hg) = iprop(slab d i s (filled d i fa s f g hg) ∗ inChunk d i fa g) from
    (bigSep_sep' _ _ _).trans (by rw [← slab_images]))) $$ HD
  icases HD' with ⟨Hs, Ha⟩
  isplitl [Hs Hin Hout]
  · unfold Arrived
    iexists hg, f
    isplitl [Hs]; · iexact Hs
    isplitl [Hin] <;> iassumption
  isplitl [Ha]; · iexact Ha
  iexists _; iexact HO

/-- The chunk in a slot starts for the output. -/
theorem wp_issueOut (Q : PUnit → sProp 𝕄) (s : Slot) (g : Nat) (o : Fin 3 → Nat) (h : InB4 o) (ho : o = outAt i g) :
    iprop(Arrived d i fa s g ∗ outChunk d i g fb)
      ⊢ iprop((Leaving d i fa s g -∗ Q ⟨⟩) -∗ WP (issueOut (F := F) i bV s o h) Q) := by
  subst ho
  unfold Arrived issueOut Prog.lift
  iintro ⟨⟨%hg, %f, Hs, Hin, Hout⟩, Hb⟩ Hk
  ihave Hb' := (Entails.of_eq (outChunk_eq d i g hg fb)) $$ Hb
  have hN : (img4 bV (outAt i g) h).view.dmaCredit = N4 := rfl
  iapply (Transfers.wp_dmaLocal (EC (F := F)) 𝒱₀ (VT d i) none (src := s.buf) (dst := img4 bV (outAt i g) h) (sm := .dma s.sout)
    (hsrc := View.wordExact_bits rfl) (hdst := View.wordExact_bits rfl) (hsem := ⟨Or.inl rfl, trivial⟩) (default : HIx 1) N4
    hN N4_pos subset_rfl) $$ [Hs Hb' Hout]
  · isplitl [Hs]; · iexact Hs
    isplitl [Hb']; · iexact Hb'
    iexact Hout
  iintro HF
  sl_step
  iapply Hk
  unfold Leaving
  iexists _
  isplitl [HF]
  · rw [← landed_out d i fa fb s f g hg]
    iexact HF
  iexact Hin

/-- The chunk has left: the output holds it, the slot is free. -/
theorem wp_waitOut (Q : PUnit → sProp 𝕄) (s : Slot) (g : Nat) (o : Fin 3 → Nat) (h : InB4 o) :
    iprop(MayW d i O ∗ Leaving d i fa s g ∗ Owing d i O)
      ⊢ iprop((iprop(Free d i s ∗ outChunk d i g (fr d fa) ∗ Owing d i O) -∗ Q ⟨⟩) -∗ WP (waitOut (F := F) i bV s o h) Q) := by
  unfold Leaving waitOut Prog.lift
  iintro ⟨#Hmw, ⟨%f, HF, Hin⟩, ⟨%W, HO⟩⟩ Hk
  ihave Hmw' := (Transfers.MayWaits.elim (.dma s.sout)) $$ Hmw
  have hN : (img4 bV o h).view.dmaCredit = N4 := rfl
  iapply (Transfers.wp_waitLocalO (EC (F := F)) 𝒱₀ (VT d i) none (hsrc := View.wordExact_bits rfl) (hdst := View.wordExact_bits rfl)
    (srcw := s.buf) (dstw := img4 bV o h) (default : HIx 1) (N := N4) hN) $$ [HF HO Hmw']
  · isplitl [HF]; · iexact HF
    isplitl [HO]; · iexact HO
    iexact Hmw'
  iintro ⟨⟨Hb, Hs⟩, Hout, HO⟩
  sl_step
  iapply Hk
  isplitl [Hs Hin Hout]
  · unfold Free
    iexists f
    isplitl [Hs]; · iexact Hs
    isplitl [Hin] <;> iassumption
  isplitl [Hb]; · iexact Hb
  iexists _; iexact HO

end Rules

end Cert.Proof.KernelIdeal

end
-- ==== Proof.TileIdeal.lean ====
/-
  The whole task of one tile.

  Between turns the ring's state is one formula, `Turning`: two chunks arriving, two leaving, and how far
  the input and the output have got. A full turn moves it by one chunk and turns the slots round; the
  prologue reaches it, the loop keeps it, the epilogue drains it.
-/
module

public import proofs.«01_k».proof.Proof.MovesIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)
variable (fa : Buf (Elt F) (aLoc d)) (fb : Buf (Elt F) (bLoc d))
variable (O : CellTallies nD τ sig (HIx 1))

local notation "WP" => wp frame (wpE (defs₀ (F := F)) 𝒱₀ (VT d i) none) Set.univ

/-! ## The printed offsets, chunk by chunk -/

theorem off1_chunk (c : BitVec 32) (g : Nat) (hc : c.toNat = 4 * g) (r : Fin 8)
    (hr : ∀ j : Fin 4, k0_off1_at ⟨4 * r.val + j.val, by omega⟩ = (c, BitVec.ofNat 32 j.val)) (j : Fin 4) :
    k0_off1 i c (BitVec.ofNat 32 j.val) = inAt i g j := by
  funext a
  have h := off1_val i ⟨4 * r.val + j.val, by omega⟩ a
  rw [hr j] at h
  refine h.trans ?_
  have hj : (BitVec.ofNat 32 j.val).toNat = j.val := by rw [BitVec.toNat_ofNat]; exact Nat.mod_eq_of_lt (by omega)
  show (![top i - (c.toNat + (BitVec.ofNat 32 j.val).toNat), 0, 0] : Fin 3 → Nat) a = _
  rw [hc, hj]
theorem off2_chunk (g : Nat) (r : Fin 10) (hr : (k0_off2_at r).toNat = 4 * g) : k0_off2 i (k0_off2_at r) = outAt i g := by
  funext a
  refine (off2_val i r a).trans ?_
  rw [hr]
theorem off3_chunk (t : Fin k0_t1_loop.trips) (r : Fin 4) : k0_off3 i t (BitVec.ofNat 32 r.val) = outAt i (4 * t.val + 4 + r.val) := by
  rw [k0_off3_eq]
  unfold outAt base
  congr 1
  omega
theorem off5_chunk (t : Fin k0_t1_loop.trips) (r j : Fin 4) :
    k0_off5 i t (BitVec.ofNat 32 r.val) (BitVec.ofNat 32 j.val) = inAt i (4 * t.val + 6 + r.val) j :=
  funext (off5_val i t r j)

/-! ## Chunks taken and given back in order -/

section Chunks

/-- The chunks from `n` on; the chunks before `n`. -/
abbrev ahead (Ψ : Nat → sProp 𝕄) (n : Nat) : sProp 𝕄 := bigSep (Finset.Ico n 96) Ψ
abbrev behind (Ψ : Nat → sProp 𝕄) (n : Nat) : sProp 𝕄 := bigSep (Finset.range n) Ψ

omit [FloatOps F] in
theorem ahead_take (Ψ : Nat → sProp 𝕄) (n : Nat) (h : n < 96) : (ahead Ψ n : sProp 𝕄) = iprop(Ψ n ∗ ahead Ψ (n + 1)) := by
  have e : Finset.Ico n 96 = insert n (Finset.Ico (n + 1) 96) := by
    ext x; simp only [Finset.mem_Ico, Finset.mem_insert]; omega
  unfold ahead
  rw [e, SparseCore.bigSep_insert' (by simp)]
omit [FloatOps F] in
theorem behind_give (Ψ : Nat → sProp 𝕄) (n : Nat) : (behind Ψ (n + 1) : sProp 𝕄) = iprop(Ψ n ∗ behind Ψ n) := by
  have e : Finset.range (n + 1) = insert n (Finset.range n) := by
    ext x; simp only [Finset.mem_range, Finset.mem_insert]; omega
  unfold behind
  rw [e, SparseCore.bigSep_insert' (by simp)]
omit [FloatOps F] in
theorem behind_zero (Ψ : Nat → sProp 𝕄) : (behind Ψ 0 : sProp 𝕄) = iprop(emp) := by
  unfold behind; rw [Finset.range_zero, bigSep_empty]; rfl
omit [FloatOps F] in
theorem ahead_zero (Ψ : Nat → sProp 𝕄) : (ahead Ψ 0 : sProp 𝕄) = behind Ψ 96 := by
  unfold ahead behind; rw [Finset.range_eq_Ico]
end Chunks

/-- How far the tile has got: the input taken before `n` of which `n'` are back, the output written before `w'` and untouched from `w` on. -/
def Progress (n n' w w' : Nat) : sProp 𝕄 :=
  iprop(ahead (inChunk d i fa) n ∗ behind (inChunk d i fa) n' ∗ ahead (fun g => outChunk d i g fb) w
    ∗ behind (fun g => outChunk d i g (fr d fa)) w' ∗ Owing d i O)

/-- The ring between two turns: chunks `n + 2` and `n + 3` are arriving in `s₀` and `s₁`, chunks `n` and `n + 1` leaving from
    `s₂` and `s₃`. -/
def Turning (s₀ s₁ s₂ s₃ : Slot) (n : Nat) : sProp 𝕄 :=
  iprop(Arriving d i fa s₀ (n + 2) ∗ Arriving d i fa s₁ (n + 3) ∗ Leaving d i fa s₂ n ∗ Leaving d i fa s₃ (n + 1)
    ∗ Progress d i fa fb O (n + 4) (n + 2) (n + 2) n)

/-! ## The moves over the progress -/

theorem fill (Q : PUnit → sProp 𝕄) (s : Slot) (hs : s.Ok) (n n' w w' : Nat) (hn : n < 96) (o : Fin 4 → Fin 3 → Nat) (h : ∀ j, InB1 (o j))
    (ho : ∀ j, o j = inAt i n j) :
    iprop(Free d i s ∗ Progress d i fa fb O n n' w w')
      ⊢ iprop((iprop(Arriving d i fa s n ∗ Progress d i fa fb O (n + 1) n' w w') -∗ Q ⟨⟩) -∗ WP (issueIn (F := F) i aV s o h) Q) := by
  unfold Progress
  rw [ahead_take _ n hn]
  iintro ⟨Hs, ⟨Hc, Ha⟩, Hr⟩ Hk
  iapply (wp_issueIn d i fa Q s hs n hn o h ho) $$ [Hs Hc]
  · isplitl [Hs] <;> iassumption
  iintro Hs
  iapply Hk
  isplitl [Hs]; · iexact Hs
  isplitl [Ha]; · iexact Ha
  iexact Hr

/-- A chunk arrives and leaves for the output. -/
theorem pass (Q : PUnit → sProp 𝕄) (s : Slot) (hs : s.Ok) (n g w' : Nat) (hg : g < 96) (o : Fin 3 → Nat) (h : InB4 o) (ho : o = outAt i g) :
    iprop(MayW d i O ∗ Arriving d i fa s g ∗ Progress d i fa fb O n g g w')
      ⊢ iprop((iprop(Leaving d i fa s g ∗ Progress d i fa fb O n (g + 1) (g + 1) w') -∗ Q ⟨⟩)
          -∗ WP (waitIn (F := F) i aV s) fun _ => WP (issueOut (F := F) i bV s o h) Q) := by
  unfold Progress
  rw [ahead_take (fun g => outChunk d i g fb) g hg, behind_give _ g]
  iintro ⟨#Hmw, Hs, Ha, Hb, ⟨Hc, Hw⟩, Hw', HO⟩ Hk
  iapply (wp_waitIn d i fa O _ s hs g) $$ [Hs HO]
  · isplitr; · iexact Hmw
    isplitl [Hs] <;> iassumption
  iintro ⟨Hs, Hi, HO⟩
  iapply (wp_issueOut d i fa fb Q s g o h ho) $$ [Hs Hc]
  · isplitl [Hs] <;> iassumption
  iintro Hs
  iapply Hk
  isplitl [Hs]; · iexact Hs
  isplitl [Ha]; · iexact Ha
  isplitl [Hi Hb]; · isplitl [Hi] <;> iassumption
  isplitl [Hw]; · iexact Hw
  isplitl [Hw'] <;> iassumption

/-- A chunk has reached the output. -/
theorem drain (Q : PUnit → sProp 𝕄) (s : Slot) (n n' w w' : Nat) (o : Fin 3 → Nat) (h : InB4 o) :
    iprop(MayW d i O ∗ Leaving d i fa s w' ∗ Progress d i fa fb O n n' w w')
      ⊢ iprop((iprop(Free d i s ∗ Progress d i fa fb O n n' w (w' + 1)) -∗ Q ⟨⟩) -∗ WP (waitOut (F := F) i bV s o h) Q) := by
  unfold Progress
  rw [behind_give _ w']
  iintro ⟨#Hmw, Hs, Ha, Hb, Hw, Hw', HO⟩ Hk
  iapply (wp_waitOut d i fa O Q s w' o h) $$ [Hs HO]
  · isplitr; · iexact Hmw
    isplitl [Hs] <;> iassumption
  iintro ⟨Hs, Hc, HO⟩
  iapply Hk
  isplitl [Hs]; · iexact Hs
  isplitl [Ha]; · iexact Ha
  isplitl [Hb]; · iexact Hb
  isplitl [Hw]; · iexact Hw
  isplitl [Hc Hw']; · isplitl [Hc] <;> iassumption
  iexact HO

/-- A full turn. -/
theorem wp_turn (Q : PUnit → sProp 𝕄) (s₀ s₁ s₂ s₃ : Slot) (h₀ : s₀.Ok) (h₂ : s₂.Ok) (n : Nat) (hn : n + 4 < 96)
    (oO : Fin 3 → Nat) (hO : InB4 oO) (oW : Fin 3 → Nat) (hW : InB4 oW) (oI : Fin 4 → Fin 3 → Nat) (hI : ∀ j, InB1 (oI j))
    (eO : oO = outAt i (n + 2)) (eI : ∀ j, oI j = inAt i (n + 4) j) :
    iprop(MayW d i O ∗ Turning d i fa fb O s₀ s₁ s₂ s₃ n)
      ⊢ iprop((Turning d i fa fb O s₁ s₂ s₃ s₀ (n + 1) -∗ Q ⟨⟩) -∗ WP (turn (F := F) i aV bV s₀ s₂ oO hO oW hW oI hI) Q) := by
  unfold Turning turn
  simp only [wp_bind]
  iintro ⟨#Hmw, H0, H1, H2, H3, HP⟩ Hk
  iapply (pass d i fa fb O _ s₀ h₀ (n + 4) (n + 2) n (by omega) oO hO eO) $$ [H0 HP]
  · isplitr; · iexact Hmw
    isplitl [H0] <;> iassumption
  iintro ⟨H0, HP⟩
  iapply (drain d i fa fb O _ s₂ (n + 4) (n + 3) (n + 3) n oW hW) $$ [H2 HP]
  · isplitr; · iexact Hmw
    isplitl [H2] <;> iassumption
  iintro ⟨H2, HP⟩
  iapply (fill d i fa fb O _ s₂ h₂ (n + 4) (n + 3) (n + 3) (n + 1) hn oI hI eI) $$ [H2 HP]
  · isplitl [H2] <;> iassumption
  iintro ⟨H2, HP⟩
  iapply Hk
  isplitl [H1]; · iexact H1
  isplitl [H2]; · iexact H2
  isplitl [H3]; · iexact H3
  isplitl [H0]; · iexact H0
  iexact HP

/-! ## The task -/

section Task
variable (s₀ s₁ s₂ s₃ : Slot) (h₀ : s₀.Ok) (h₁ : s₁.Ok) (h₂ : s₂.Ok) (h₃ : s₃.Ok)
include h₀ h₁ h₂ h₃

/-- The four slots free. -/
abbrev AllFree (s₀ s₁ s₂ s₃ : Slot) : sProp 𝕄 := iprop(Free d i s₀ ∗ Free d i s₁ ∗ Free d i s₂ ∗ Free d i s₃)

theorem wp_prologue (Q : PUnit → sProp 𝕄) :
    iprop(MayW d i O ∗ AllFree d i s₀ s₁ s₂ s₃ ∗ Progress d i fa fb O 0 0 0 0)
      ⊢ iprop((Turning d i fa fb O s₀ s₁ s₂ s₃ 2 -∗ Q ⟨⟩) -∗ WP (prologue (F := F) i aV bV s₀ s₁ s₂ s₃) Q) := by
  unfold prologue
  simp only [wp_bind]
  iintro ⟨#Hmw, ⟨H0, H1, H2, H3⟩, HP⟩ Hk
  iapply (fill d i fa fb O _ s₀ h₀ 0 0 0 0 (by decide) _ _ (off1_chunk i _ 0 rfl 0 (by decide))) $$ [H0 HP]
  · isplitl [H0] <;> iassumption
  iintro ⟨H0, HP⟩
  iapply (fill d i fa fb O _ s₁ h₁ 1 0 0 0 (by decide) _ _ (off1_chunk i _ 1 rfl 1 (by decide))) $$ [H1 HP]
  · isplitl [H1] <;> iassumption
  iintro ⟨H1, HP⟩
  iapply (fill d i fa fb O _ s₂ h₂ 2 0 0 0 (by decide) _ _ (off1_chunk i _ 2 rfl 2 (by decide))) $$ [H2 HP]
  · isplitl [H2] <;> iassumption
  iintro ⟨H2, HP⟩
  iapply (fill d i fa fb O _ s₃ h₃ 3 0 0 0 (by decide) _ _ (off1_chunk i _ 3 rfl 3 (by decide))) $$ [H3 HP]
  · isplitl [H3] <;> iassumption
  iintro ⟨H3, HP⟩
  iapply (pass d i fa fb O _ s₀ h₀ 4 0 0 (by decide) _ _ (off2_chunk i 0 0 (by decide))) $$ [H0 HP]
  · isplitr; · iexact Hmw
    isplitl [H0] <;> iassumption
  iintro ⟨H0, HP⟩
  iapply (pass d i fa fb O _ s₁ h₁ 4 1 0 (by decide) _ _ (off2_chunk i 1 1 (by decide))) $$ [H1 HP]
  · isplitr; · iexact Hmw
    isplitl [H1] <;> iassumption
  iintro ⟨H1, HP⟩
  iapply (wp_turn d i fa fb O _ s₂ s₃ s₀ s₁ h₂ h₀ 0 (by decide) _ _ _ _ _ _ (off2_chunk i 2 2 (by decide)) (off1_chunk i _ 4 rfl 4 (by decide))) $$ [H0 H1 H2 H3 HP]
  · isplitr; · iexact Hmw
    unfold Turning
    isplitl [H2]; · iexact H2
    isplitl [H3]; · iexact H3
    isplitl [H0]; · iexact H0
    isplitl [H1]; · iexact H1
    iexact HP
  iintro HT
  iapply (wp_turn d i fa fb O _ s₃ s₀ s₁ s₂ h₃ h₁ 1 (by decide) _ _ _ _ _ _ (off2_chunk i 3 3 (by decide)) (off1_chunk i _ 5 rfl 5 (by decide))) $$ [HT]
  · isplitr <;> iassumption
  iexact Hk

/-- A trip of the loop moves the ring by four chunks. -/
theorem wp_trip (Q : PUnit → sProp 𝕄) (t : Fin k0_t1_loop.trips) :
    iprop(MayW d i O ∗ Turning d i fa fb O s₀ s₁ s₂ s₃ (4 * t.val + 2))
      ⊢ iprop((Turning d i fa fb O s₀ s₁ s₂ s₃ (4 * t.val + 2 + 1 + 1 + 1 + 1) -∗ Q ⟨⟩) -∗ WP (trip (F := F) i aV bV s₀ s₁ s₂ s₃ t) Q) := by
  have ht : t.val < 22 := t.isLt
  unfold trip
  simp only [wp_bind]
  iintro ⟨#Hmw, HT⟩ Hk
  iapply (wp_turn d i fa fb O _ s₀ s₁ s₂ s₃ h₀ h₂ (4 * t.val + 2) (by omega) _ _ _ _ _ _ (off3_chunk i t 0) (off5_chunk i t 0)) $$ [HT]
  · isplitr <;> iassumption
  iintro HT
  iapply (wp_turn d i fa fb O _ s₁ s₂ s₃ s₀ h₁ h₃ (4 * t.val + 2 + 1) (by omega) _ _ _ _ _ _ (off3_chunk i t 1) (off5_chunk i t 1)) $$ [HT]
  · isplitr <;> iassumption
  iintro HT
  iapply (wp_turn d i fa fb O _ s₂ s₃ s₀ s₁ h₂ h₀ (4 * t.val + 2 + 1 + 1) (by omega) _ _ _ _ _ _ (off3_chunk i t 2) (off5_chunk i t 2)) $$ [HT]
  · isplitr <;> iassumption
  iintro HT
  iapply (wp_turn d i fa fb O _ s₃ s₀ s₁ s₂ h₃ h₁ (4 * t.val + 2 + 1 + 1 + 1) (by omega) _ _ _ _ _ _ (off3_chunk i t 3) (off5_chunk i t 3)) $$ [HT]
  · isplitr <;> iassumption
  iexact Hk

theorem wp_epilogue (Q : PUnit → sProp 𝕄) :
    iprop(MayW d i O ∗ Turning d i fa fb O s₀ s₁ s₂ s₃ 90)
      ⊢ iprop((iprop(AllFree d i s₀ s₁ s₂ s₃ ∗ Progress d i fa fb O 96 96 96 96) -∗ Q ⟨⟩) -∗ WP (epilogue (F := F) i aV bV s₀ s₁ s₂ s₃) Q) := by
  unfold epilogue
  simp only [wp_bind]
  iintro ⟨#Hmw, HT⟩ Hk
  iapply (wp_turn d i fa fb O _ s₀ s₁ s₂ s₃ h₀ h₂ 90 (by decide) _ _ _ _ _ _ (off2_chunk i 92 4 (by decide)) (off1_chunk i _ 94 rfl 6 (by decide))) $$ [HT]
  · isplitr <;> iassumption
  iintro HT
  iapply (wp_turn d i fa fb O _ s₁ s₂ s₃ s₀ h₁ h₃ 91 (by decide) _ _ _ _ _ _ (off2_chunk i 93 6 (by decide)) (off1_chunk i _ 95 rfl 7 (by decide))) $$ [HT]
  · isplitr <;> iassumption
  unfold Turning
  iintro ⟨H2, H3, H0, H1, HP⟩
  iapply (pass d i fa fb O _ s₂ h₂ 96 94 92 (by decide) _ _ (off2_chunk i 94 8 (by decide))) $$ [H2 HP]
  · isplitr; · iexact Hmw
    isplitl [H2] <;> iassumption
  iintro ⟨H2, HP⟩
  iapply (drain d i fa fb O _ s₀ 96 95 95 92 _ _) $$ [H0 HP]
  · isplitr; · iexact Hmw
    isplitl [H0] <;> iassumption
  iintro ⟨H0, HP⟩
  iapply (pass d i fa fb O _ s₃ h₃ 96 95 93 (by decide) _ _ (off2_chunk i 95 9 (by decide))) $$ [H3 HP]
  · isplitr; · iexact Hmw
    isplitl [H3] <;> iassumption
  iintro ⟨H3, HP⟩
  iapply (drain d i fa fb O _ s₁ 96 96 96 93 _ _) $$ [H1 HP]
  · isplitr; · iexact Hmw
    isplitl [H1] <;> iassumption
  iintro ⟨H1, HP⟩
  iapply (drain d i fa fb O _ s₂ 96 96 96 94 _ _) $$ [H2 HP]
  · isplitr; · iexact Hmw
    isplitl [H2] <;> iassumption
  iintro ⟨H2, HP⟩
  iapply (drain d i fa fb O _ s₃ 96 96 96 95 _ _) $$ [H3 HP]
  · isplitr; · iexact Hmw
    isplitl [H3] <;> iassumption
  iintro ⟨H3, HP⟩
  iapply Hk
  isplitl [H0 H1 H2 H3]
  · isplitl [H0]; · iexact H0
    isplitl [H1]; · iexact H1
    isplitl [H2] <;> iassumption
  iexact HP

/-- The tile's task: from its input images, its output images and its free slots to the output reversed. -/
theorem wp_ring (Q : PUnit → sProp 𝕄) :
    iprop(MayW d i O ∗ AllFree d i s₀ s₁ s₂ s₃ ∗ Progress d i fa fb O 0 0 0 0)
      ⊢ iprop((iprop(AllFree d i s₀ s₁ s₂ s₃ ∗ Progress d i fa fb O 96 96 96 96) -∗ Q ⟨⟩) -∗ WP (ring (F := F) i aV bV s₀ s₁ s₂ s₃) Q) := by
  unfold ring
  simp only [wp_bind]
  iintro ⟨#Hmw, HF, HP⟩ Hk
  iapply (wp_prologue d i fa fb O s₀ s₁ s₂ s₃ h₀ h₁ h₂ h₃ _) $$ [HF HP]
  · isplitr; · iexact Hmw
    isplitl [HF] <;> iassumption
  iintro HT
  iapply (Scf.wp_for frame (wpE (defs₀ (F := F)) 𝒱₀ (VT d i) none) Set.univ _ _ _ k0_t1_ok (⟨⟩ : PUnit)
    (fun t (_ : PUnit) => trip (F := F) i aV bV s₀ s₁ s₂ s₃ t)
    (fun t _ => iprop(MayW d i O ∗ Turning d i fa fb O s₀ s₁ s₂ s₃ (4 * t + 2)))
    (fun t _ => by
      iintro ⟨#Hmw, HT⟩
      iapply (wp_trip d i fa fb O s₀ s₁ s₂ s₃ h₀ h₁ h₂ h₃ _ t) $$ [HT]
      · isplitr <;> iassumption
      iintro HT
      isplitr; · iexact Hmw
      iexact HT))
  isplitl [HT]
  · isplitr; · iexact Hmw
    iexact HT
  iintro %_ ⟨-, HT⟩
  iapply (wp_epilogue d i fa fb O s₀ s₁ s₂ s₃ h₀ h₁ h₂ h₃ _) $$ [HT]
  · isplitr; · iexact Hmw
    iexact HT
  iexact Hk

end Task

end Cert.Proof.KernelIdeal

end
-- ==== Proof.DealIdeal.lean ====
/-
  What each tile is dealt: a run of 384 input images and a run of 384 output images, its four slabs and
  its eight semaphores. The runs of all tiles make the two arrays; a tile's runs make its chunks.
-/
module

public import proofs.«01_k».proof.Proof.TileIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Runs of images cut into shorter runs -/

/-- The runs `lo t, …, lo t + len - 1` for `t` in `s` cut the run `r, …, r + n - 1`. -/
structure Cuts {I : Type} (s : Finset I) (lo : I → Nat) (len r n : Nat) : Prop where
  inside : ∀ t ∈ s, r ≤ lo t ∧ lo t + len ≤ r + n
  cover : ∀ x, r ≤ x → x < r + n → ∃ t ∈ s, lo t ≤ x ∧ x < lo t + len
  apart : ∀ t ∈ s, ∀ t' ∈ s, t ≠ t' → lo t + len ≤ lo t' ∨ lo t' + len ≤ lo t

section Cut
variable {I : Type} {s : Finset I} {lo : I → Nat} {len r n : Nat}

theorem Cuts.union (h : Cuts s lo len r n) : (s.biUnion fun t => images (lo t) len) = images r n := by
  ext x
  simp only [Finset.mem_biUnion, mem_images]
  refine ⟨?_, fun hx => h.cover _ hx.1 hx.2⟩
  rintro ⟨t, ht, hx⟩
  have := h.inside t ht
  omega

theorem Cuts.disjoint (h : Cuts s lo len r n) : ∀ t ∈ s, ∀ t' ∈ s, t ≠ t' → Disjoint (images (lo t) len) (images (lo t') len) :=
  fun t ht t' ht' hne => images_disjoint (h.apart t ht t' ht' hne)

theorem Cuts.input (h : Cuts s lo len r n) (d : Dev nD) (f : Buf (Elt F) (aLoc d)) :
    (aLoc d ↦[images r n]{fullShare} f : sProp 𝕄) = bigSep s fun t => aLoc d ↦[images (lo t) len]{fullShare} f := by
  rw [← pointsTo_biUnion s (ℓ := aLoc d) (fun t => images (lo t) len) h.disjoint, h.union]

theorem Cuts.output (h : Cuts s lo len r n) (d : Dev nD) (f : Buf (Elt F) (bLoc d)) :
    (bLoc d ↦[images r n]{fullShare} f : sProp 𝕄) = bigSep s fun t => bLoc d ↦[images (lo t) len]{fullShare} f := by
  rw [← pointsTo_biUnion s (ℓ := bLoc d) (fun t => images (lo t) len) h.disjoint, h.union]
end Cut

theorem images_all : images 0 12288 = Finset.univ :=
  Finset.eq_univ_of_forall fun x => mem_images.mpr ⟨Nat.zero_le _, (Nat.zero_add 12288).symm ▸ (x 0).isLt⟩

/-! ## The tiles' runs -/

def coordsV (c : Fin (grid0.bound 0)) (s : Fin (grid0.bound 1)) : grid0.Coords :=
  fun | 0 => c | 1 => s | ⟨_ + 2, h⟩ => absurd h (Nat.not_lt.2 (Nat.le_add_left _ _))

/-- The first input image of a tile. -/
abbrev low (i : grid0.Coords) : Nat := top i - 383

abbrev tileIn (d : Dev nD) (i : grid0.Coords) (f : Buf (Elt F) (aLoc d)) : sProp 𝕄 := aLoc d ↦[images (low i) 384]{fullShare} f
abbrev tileOut (d : Dev nD) (i : grid0.Coords) (f : Buf (Elt F) (bLoc d)) : sProp 𝕄 := bLoc d ↦[images (base i) 384]{fullShare} f

/-- The tiles, by core and subcore. -/
abbrev tile (p : Fin 2 × Fin 16) : grid0.Coords := coordsV p.1 p.2

theorem low_tile (p : Fin 2 × Fin 16) : low (tile p) = 768 * p.2.val + 384 - 384 * p.1.val := by
  show 768 * p.2.val + 767 - 384 * p.1.val - 383 = _
  have := p.1.isLt; omega
theorem base_tile (p : Fin 2 × Fin 16) : base (tile p) = 768 * p.2.val + 384 * p.1.val := rfl

theorem cuts_in : Cuts (Finset.univ : Finset (Fin 2 × Fin 16)) (fun p => low (tile p)) 384 0 12288 where
  inside p _ := by rw [low_tile]; have := p.1.isLt; have := p.2.isLt; omega
  cover x _ hx := by
    refine ⟨(⟨1 - x % 768 / 384, by omega⟩, ⟨x / 768, by omega⟩), Finset.mem_univ _, ?_⟩
    rw [low_tile]; dsimp only; omega
  apart p _ p' _ h := by
    rw [low_tile, low_tile]
    by_contra hc
    refine h (Prod.ext (Fin.ext ?_) (Fin.ext ?_)) <;> have := p.1.isLt <;> have := p'.1.isLt <;> omega

theorem cuts_out : Cuts (Finset.univ : Finset (Fin 2 × Fin 16)) (fun p => base (tile p)) 384 0 12288 where
  inside p _ := by rw [base_tile]; have := p.1.isLt; have := p.2.isLt; omega
  cover x _ hx := by
    refine ⟨(⟨x % 768 / 384, by omega⟩, ⟨x / 768, by omega⟩), Finset.mem_univ _, ?_⟩
    rw [base_tile]; dsimp only; omega
  apart p _ p' _ h := by
    rw [base_tile, base_tile]
    by_contra hc
    refine h (Prod.ext (Fin.ext ?_) (Fin.ext ?_)) <;> have := p.1.isLt <;> have := p'.1.isLt <;> omega

/-- The input is the tiles' runs of it; so is the output. -/
theorem input_tiles (d : Dev nD) (f : Buf (Elt F) (aLoc d)) :
    (aLoc d ↦{fullShare} f : sProp 𝕄) = bigSep Finset.univ fun c : Fin 2 => bigSep Finset.univ fun s : Fin 16 => tileIn d (coordsV c s) f := by
  rw [← BI.bigSep_univ_prod (fun p : Fin 2 × Fin 16 => (tileIn d (tile p) f : sProp 𝕄)), ← cuts_in.input d f, images_all]; try rfl
theorem output_tiles (d : Dev nD) (f : Buf (Elt F) (bLoc d)) :
    (bLoc d ↦{fullShare} f : sProp 𝕄) = bigSep Finset.univ fun c : Fin 2 => bigSep Finset.univ fun s : Fin 16 => tileOut d (coordsV c s) f := by
  rw [← BI.bigSep_univ_prod (fun p : Fin 2 × Fin 16 => (tileOut d (tile p) f : sProp 𝕄)), ← cuts_out.output d f, images_all]; try rfl

/-! ## A tile's chunks -/

section Tile

variable (d : Dev nD) (i : grid0.Coords)

theorem low_top : low i + 383 = top i := by
  have := lt_core i
  show 768 * (i 1).val + 767 - 384 * (i 0).val - 383 + 383 = 768 * (i 1).val + 767 - 384 * (i 0).val
  omega

theorem cuts_chunks_in : Cuts (Finset.range 96) (fun g => top i - (4 * g + 3)) 4 (low i) 384 where
  inside g hg := by have := Finset.mem_range.mp hg; have := low_top i; omega
  cover x h h' := by
    have := low_top i
    exact ⟨(top i - x) / 4, Finset.mem_range.mpr (by omega), by omega⟩
  apart g hg g' hg' h := by have := Finset.mem_range.mp hg; have := Finset.mem_range.mp hg'; have := low_top i; omega

theorem cuts_images_in (g : Nat) (hg : g < 96) :
    Cuts (Finset.univ : Finset (Fin 4)) (fun j => top i - (4 * g + j.val)) 1 (top i - (4 * g + 3)) 4 where
  inside j _ := by have := low_top i; omega
  cover x h h' := by
    have := low_top i
    exact ⟨⟨top i - 4 * g - x, by omega⟩, Finset.mem_univ _, by dsimp only; omega⟩
  apart j _ j' _ h := by have := low_top i; have : j.val ≠ j'.val := fun e => h (Fin.ext e); omega

theorem cuts_chunks_out : Cuts (Finset.range 96) (fun g => base i + 4 * g) 4 (base i) 384 where
  inside g hg := by have := Finset.mem_range.mp hg; omega
  cover x h h' := ⟨(x - base i) / 4, Finset.mem_range.mpr (by omega), by omega⟩
  apart g hg g' hg' h := by omega

theorem tileIn_chunks (f : Buf (Elt F) (aLoc d)) : (tileIn d i f : sProp 𝕄) = behind (inChunk d i f) 96 :=
  ((cuts_chunks_in i).input d f).trans (bigSep_congr fun g hg => (cuts_images_in i g (Finset.mem_range.mp hg)).input d f)
theorem tileOut_chunks (f : Buf (Elt F) (bLoc d)) : (tileOut d i f : sProp 𝕄) = behind (fun g => outChunk d i g f) 96 :=
  (cuts_chunks_out i).output d f

/-! ## A tile's slots -/

/-- The eight semaphores of a tile: four for the input, four for the output. -/
abbrev csem (k : Nat) (hk : k < 8 := by decide) : DmaSem sig := ⟨k, hk⟩
abbrev dcell (k : Fin 8) : GSem nD τ sig := (VT d i, .dma (csem k.val k.isLt))

abbrev slot0 : Slot := ⟨Memref.whole cc0_scratch0, csem 0, csem 4⟩
abbrev slot1 : Slot := ⟨Memref.whole cc0_scratch1, csem 1, csem 5⟩
abbrev slot2 : Slot := ⟨Memref.whole cc0_scratch2, csem 2, csem 6⟩
abbrev slot3 : Slot := ⟨Memref.whole cc0_scratch3, csem 3, csem 7⟩

theorem slot0_ok : slot0.Ok := ⟨fun _ => rfl, by decide⟩
theorem slot1_ok : slot1.Ok := ⟨fun _ => rfl, by decide⟩
theorem slot2_ok : slot2.Ok := ⟨fun _ => rfl, by decide⟩
theorem slot3_ok : slot3.Ok := ⟨fun _ => rfl, by decide⟩

theorem dcell_mem (k : Fin 8) : dcell d i k ∈ ownCells (VT d i) :=
  mem_ownCells.mpr ⟨rfl, (show ∀ s : DmaSem sig, (SemLoc.dma s : SemLoc sig).isScoped .scVector = true by decide) _⟩

theorem ownSems0_V :
    (ownSems0 (VT d i) : sProp 𝕄)
      = iprop((bigSep Finset.univ fun k : Fin 8 => semVal (dcell d i k) 0)
          ∗ bigSep ((ownCells (VT d i)) \ Finset.univ.image (dcell d i)) fun g => semVal g 0) := by
  unfold SparseCore.Cfg.ownSems0
  rw [SparseCore.bigSep_sdiff_split' (t := Finset.univ.image (dcell d i)) (Finset.image_subset_iff.mpr fun k _ => dcell_mem d i k),
    SparseCore.bigSep_image_of_injOn (fun a _ b _ h => by
      have := congrArg (fun g : GSem nD τ sig => g.2) h
      simp only [SemLoc.dma.injEq, Fin.mk.injEq] at this; exact Fin.ext this)]

theorem sems_eight (Ψ : Fin 8 → sProp 𝕄) :
    (bigSep Finset.univ Ψ) = iprop(Ψ 0 ∗ Ψ 1 ∗ Ψ 2 ∗ Ψ 3 ∗ Ψ 4 ∗ Ψ 5 ∗ Ψ 6 ∗ Ψ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The four slabs of a tile, as references. -/
abbrev scr (k : Fin 4) : Ref sig .scVector := ⟨.vmem, k, rfl⟩
abbrev dscr (k : Fin 4) : DevRef τ sig := (Proc.scVector (cV i) (jV i)).devRef (scr k)

theorem ownBufs_V :
    (ownBufs (VT d i) : sProp 𝕄)
      = iprop((bigSep Finset.univ fun k : Fin 4 => iprop(∃ f, (VT d i).loc (scr k) ↦{fullShare} f))
          ∗ bigSep ((ownRefs (τ := τ) (.scVector (cV i) (jV i))) \ Finset.univ.image (dscr i))
              fun b => iprop(∃ f, ((d, b) : Loc nD τ sig) ↦{fullShare} f)) := by
  unfold SparseCore.Cfg.ownBufs
  rw [SparseCore.bigSep_sdiff_split' (t := Finset.univ.image (dscr i)) (Finset.image_subset_iff.mpr fun k _ =>
      SparseCore.Cfg.mem_ownRefs_of_owner (p := Proc.scVector (cV i) (jV i)) (b := dscr i k) rfl),
    SparseCore.bigSep_image_of_injOn (fun a _ b _ h => by
      have h' := Proc.devRef_injective _ h
      exact (show ∀ a b : Fin 4, scr a = scr b → a = b by decide) a b h')]

theorem slab_whole (b : Ref sig .scVector) (f : Buf (Elt F) ((VT d i).loc b)) :
    ((VT d i).loc b ↦[(View.whole b).set]{fullShare} f : sProp 𝕄) = (VT d i).loc b ↦{fullShare} f := by
  rw [View.set_whole]

/-- A tile's four slabs and eight semaphores are its four slots, free. -/
theorem slots_free [FloatOps F] :
    (iprop((bigSep Finset.univ fun k : Fin 4 => iprop(∃ f, (VT d i).loc (scr k) ↦{fullShare} f))
        ∗ bigSep Finset.univ fun k : Fin 8 => semVal (dcell d i k) 0) : sProp 𝕄)
      ⊢ AllFree d i slot0 slot1 slot2 slot3 := by
  rw [bigSep_four, sems_eight]
  simp only [← slab_whole]
  unfold AllFree Free
  iintro ⟨⟨⟨%f0, H0⟩, ⟨%f1, H1⟩, ⟨%f2, H2⟩, ⟨%f3, H3⟩⟩, C0, C1, C2, C3, C4, C5, C6, C7⟩
  isplitl [H0 C0 C4]
  · iexists f0
    isplitl [H0]; · iexact H0
    isplitl [C0]; · iexact C0
    iexact C4
  isplitl [H1 C1 C5]
  · iexists f1
    isplitl [H1]; · iexact H1
    isplitl [C1]; · iexact C1
    iexact C5
  isplitl [H2 C2 C6]
  · iexists f2
    isplitl [H2]; · iexact H2
    isplitl [C2]; · iexact C2
    iexact C6
  iexists f3
  isplitl [H3]; · iexact H3
  isplitl [C3]; · iexact C3
  iexact C7

theorem free_slots [FloatOps F] :
    (AllFree d i slot0 slot1 slot2 slot3 : sProp 𝕄)
      ⊢ iprop((bigSep Finset.univ fun k : Fin 4 => iprop(∃ f, (VT d i).loc (scr k) ↦{fullShare} f))
        ∗ bigSep Finset.univ fun k : Fin 8 => semVal (dcell d i k) 0) := by
  rw [bigSep_four, sems_eight]
  simp only [← slab_whole]
  unfold AllFree Free
  iintro ⟨⟨%f0, H0, C0, C4⟩, ⟨%f1, H1, C1, C5⟩, ⟨%f2, H2, C2, C6⟩, %f3, H3, C3, C7⟩
  isplitl [H0 H1 H2 H3]
  · isplitl [H0]; · iexists f0; iexact H0
    isplitl [H1]; · iexists f1; iexact H1
    isplitl [H2]; · iexists f2; iexact H2
    iexists f3; iexact H3
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

end Tile

end Cert.Proof.KernelIdeal

end
-- ==== Proof.LaunchIdeal.lean ====
/-
  The launch: the reshape into images, the tiles' tasks, the reshape back, and what the run leaves.
-/
module

public import proofs.«01_k».proof.Proof.DealIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## What the handshakes carry -/

variable (m : (ℓ : Loc nD τ sig) → Buf (Elt F) ℓ) (ρ : Dev nD → PrngReg)

abbrev xLoc (d : Dev nD) : Loc nD τ sig := (SparseCore.T d).loc main_arg0
abbrev rLoc (d : Dev nD) : Loc nD τ sig := (SparseCore.T d).loc main_v2

/-- The input as a list of images. -/
def X (d : Dev nD) : Buf (Elt F) (aLoc d) := shapeCast S12288x56x56 (m (xLoc d)) shapeCasts_S16x768x56x56_S12288x56x56
/-- The result: the images reversed, back in the input's shape. -/
def R (d : Dev nD) : Buf (Elt F) (rLoc d) := shapeCast S16x768x56x56 (reversed (X m d)) shapeCasts_S12288x56x56_S16x768x56x56

/-- A tile's runs with the output at `f`; a core's are its tiles'. -/
abbrev tileRuns (d : Dev nD) (f : Buf (Elt F) (bLoc d)) (c : Fin 2) (s : Fin 16) : sProp 𝕄 :=
  iprop(tileIn d (coordsV c s) (X m d) ∗ tileOut d (coordsV c s) f)
abbrev coreRuns (d : Dev nD) (f : Buf (Elt F) (bLoc d)) (c : Fin 2) : sProp 𝕄 := bigSep Finset.univ fun s : Fin 16 => tileRuns m d f c s

theorem nCore_zero : (K (F := F)).nCore 0 = 2 := rfl
theorem nSub_zero : (K (F := F)).nSub 0 = 16 := rfl

variable [FloatOps F]

def P : (K (F := F)).Pay (nD := nD) (Val := Elt F) (Name := ℕ) (U := UU) where
  st := fun q d c => match q with | 0 => coreRuns m d (m (bLoc d)) (Fin.cast nCore_zero c)
  dn := fun q d c => match q with | 0 => coreRuns m d (reversed (X m d)) (Fin.cast nCore_zero c)
  go := fun q d c i => match q with | 0 => tileRuns m d (m (bLoc d)) (Fin.cast nCore_zero c) (Fin.cast nSub_zero i)
  td := fun q d c i => match q with | 0 => tileRuns m d (reversed (X m d)) (Fin.cast nCore_zero c) (Fin.cast nSub_zero i)
  x := fun _ _ => iprop(emp)

instance P_storable : (P (F := F) m).IsStorable where
  st q d c := match q with
    | 0 => (inferInstance : BI.Storable (upEmb : UEmb _ 𝕄) (coreRuns m d (m (bLoc d)) (Fin.cast nCore_zero c)))
  dn q d c := match q with
    | 0 => (inferInstance : BI.Storable (upEmb : UEmb _ 𝕄) (coreRuns m d (reversed (X m d)) (Fin.cast nCore_zero c)))
  go q d c i := match q with
    | 0 => (inferInstance : BI.Storable (upEmb : UEmb _ 𝕄) (tileRuns m d (m (bLoc d)) (Fin.cast nCore_zero c) (Fin.cast nSub_zero i)))
  td q d c i := match q with
    | 0 => (inferInstance : BI.Storable (upEmb : UEmb _ 𝕄) (tileRuns m d (reversed (X m d)) (Fin.cast nCore_zero c) (Fin.cast nSub_zero i)))

/-! ## The task -/

section Task

variable (d : Dev nD) (i : grid0.Coords)

/-- The printed task over its own arrays, slabs and semaphores. -/
abbrev task : TProg F i PUnit :=
  cc0__reverse_images i aV (Memref.isWhole_whole _) bV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11

theorem task_ring : task (F := F) i = ring i aV bV slot0 slot1 slot2 slot3 := ring_eq i aV _ bV _ _ _ _ _ _ _ _ _ _ _ _ _ _ _ _ _

/-- A tile's task from what it is dealt to what it hands back. -/
theorem tile_body (hF : (K (F := F)).Facts) (fa : Buf (Elt F) (aLoc d)) (fb : Buf (Elt F) (bLoc d))
    (O : CellTallies nD τ sig (HIx 1)) (W : Waits sig (HIx 1)) (hO : ∀ g, O g none = 0) :
    iprop(levAts (K (F := F)).L (K (F := F)).lev ∗ emp ∗ (tileIn d i fa ∗ tileOut d i fb)
        ∗ scopedBufs (VT d i) ∗ scopedSems0 (VT d i) ∗ owes (VT d i) O W)
      ⊢ wp frame (wpE (defs₀ (F := F)) 𝒱₀ (VT d i) none) Set.univ (task i)
          fun _ => iprop((tileIn d i fa ∗ tileOut d i (reversed fa)) ∗ scopedBufs (VT d i) ∗ scopedSems0 (VT d i)
            ∗ ∃ W', ⌜∀ p ∈ W', p ∈ W ∨ p.2 = none ∨ p.2 = some (0 : Fin 1)⌝ ∗ owes (VT d i) O W') := by
  rw [(K (F := F)).scopedBufs_V hF d (cV i) (jV i), SparseCore.Cfg.scopedSems0_V (Val := Elt F) d (cV i) (jV i), ownSems0_V, ownBufs_V,
    task_ring, tileIn_chunks, tileOut_chunks, tileOut_chunks]
  iintro ⟨#Hlv, -, ⟨Hi, Ho⟩, ⟨Hb, Hbufs⟩, ⟨Hc, Hsems⟩, HO⟩
  ihave #Hmw := (show levAts (K (F := F)).L (K (F := F)).lev ⊢ Transfers.MayWaits (VT d i) (default : HIx 1) O from
    (K (F := F)).mayWaits_none (thr := VT d i) hO) $$ Hlv
  ihave HF := (slots_free (F := F) d i) $$ [Hb Hc]
  · isplitl [Hb] <;> iassumption
  iapply (wp_ring d i fa fb O slot0 slot1 slot2 slot3 slot0_ok slot1_ok slot2_ok slot3_ok _) $$ [HF Hi Ho HO]
  · isplitr; · iexact Hmw
    isplitl [HF]; · iexact HF
    unfold Progress
    rw [ahead_zero, ahead_zero, behind_zero, behind_zero]
    isplitl [Hi]; · iexact Hi
    isplitr; · iempintro
    isplitl [Ho]; · iexact Ho
    isplitr; · iempintro
    iexists W; iexact HO
  unfold Progress
  iintro ⟨HF, -, Hi, -, Ho, ⟨%W', HO⟩⟩
  ihave H := (free_slots (F := F) d i) $$ HF
  icases H with ⟨Hb, Hc⟩
  isplitl [Hi Ho]; · isplitl [Hi] <;> iassumption
  isplitl [Hb Hbufs]; · isplitl [Hb] <;> iassumption
  isplitl [Hc Hsems]; · isplitl [Hc] <;> iassumption
  iexists W'; isplitr
  · ipureintro; intro p _
    rcases p.2 with _ | q
    · exact .inr (.inl rfl)
    · exact .inr (.inr (congrArg some (Subsingleton.elim q 0)))
  · iexact HO

end Task

/-! ## The obligation -/

theorem defs₀_vector (c : Fin τ.nSC) (s : Fin τ.nSub) :
    defs₀ (F := F) (.scVector c s) 0 () = SparseCore.onTile hcore0 hsub0 (fun c s => task (F := F) (coordsV c s)) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (X m d) (m (bLoc d)) O W hO

theorem vecSplit : (K (F := F)).VecSplit' (P m) 0 := by
  intro d c
  show coreRuns m d (m (bLoc d)) (Fin.cast nCore_zero c) ⊢ |={Set.univ}=> iprop(
      coreRuns m d (m (bLoc d)) (Fin.cast nCore_zero c)
      ∗ (coreRuns m d (reversed (X m d)) (Fin.cast nCore_zero c) -∗ coreRuns m d (reversed (X m d)) (Fin.cast nCore_zero c)))
  iintro H; imodintro
  isplitl [H]; · iexact H
  iintro H; iexact H

/-! ## The launch element of the ghost state -/

def u₀ : UU := (initOf (K (F := F)).hsCells (K (F := F)).hsToks, 1)

theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## @main on the TensorCore -/

abbrev x' : DevRef τ sig := Proc.devRef .tc (main_arg0 : Ref sig .tc)
abbrev a' : DevRef τ sig := Proc.devRef .tc (main_v0 : Ref sig .tc)
abbrev b' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S16x768x56x56_S12288x56x56
abbrev opOut : HloOp τ sig (Elt F) := StableHlo.reshape main_v1 main_v2 (rfl : (.f32 : EltTy) = .f32) shapeCasts_S12288x56x56_S16x768x56x56

/-- The TensorCore's arrays. -/
abbrev S4 : Finset (DevRef τ sig) := {x', a', b', r'}

omit [FloatOps F] in
theorem held_S4 (d : Dev nD) (W : Valuation τ sig (Elt F)) :
    (held (T d) S4 W : sProp 𝕄)
      = iprop((xLoc d ↦{fullShare} W x') ∗ (aLoc d ↦{fullShare} W a') ∗ (bLoc d ↦{fullShare} W b') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_v0) ∗ (bLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at launch, after the first reshape, after the tasks. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) b' (reversed (X m d))

theorem unscoped_held (d : Dev nD) : (unscopedBufs d (fun b => m ((SparseCore.T d).loc b)) : sProp 𝕄) = held (T d) S4 (V0 m d) := by
  rw [unscopedBufs_eq, held_S4]; rfl

theorem V1_x (d : Dev nD) : V1 m d x' = m (xLoc d) := (opIn (F := F)).result_of_not_mem _ (show x' ∉ ({a'} : Finset (DevRef τ sig)) by decide)
theorem V1_b (d : Dev nD) : V1 m d b' = m (bLoc d) := (opIn (F := F)).result_of_not_mem _ (show b' ∉ ({a'} : Finset (DevRef τ sig)) by decide)
theorem V1_a (d : Dev nD) : V1 m d a' = X m d := StableHlo.reshape_result _ _ _ _ _ _ _
theorem V2_b (d : Dev nD) : V2 m d b' = reversed (X m d) := Function.update_self _ _ _
theorem V2_x (d : Dev nD) : V2 m d x' = m (xLoc d) := (Function.update_of_ne (show x' ≠ b' by decide) _ _).trans (V1_x m d)
theorem V2_a (d : Dev nD) : V2 m d a' = X m d := (Function.update_of_ne (show a' ≠ b' by decide) _ _).trans (V1_a m d)
theorem V2_r (d : Dev nD) : V2 m d r' = V1 m d r' := Function.update_of_ne (show r' ≠ b' by decide) _ _

theorem held_V1 (d : Dev nD) :
    (held (T d) S4 ((opIn (F := F)).result (V0 m d)) : sProp 𝕄)
      = iprop((xLoc d ↦{fullShare} m (xLoc d)) ∗ (aLoc d ↦{fullShare} X m d) ∗ (bLoc d ↦{fullShare} m (bLoc d)) ∗ rLoc d ↦{fullShare} V1 m d r') := by
  show held (SparseCore.T d) S4 (V1 m d) = _
  rw [held_S4, V1_x, V1_a, V1_b]
theorem held_V3 (d : Dev nD) :
    (held (T d) S4 ((opOut (F := F)).result (V2 m d)) : sProp 𝕄)
      = iprop((xLoc d ↦{fullShare} m (xLoc d)) ∗ (aLoc d ↦{fullShare} (opOut (F := F)).result (V2 m d) a')
          ∗ (bLoc d ↦{fullShare} (opOut (F := F)).result (V2 m d) b') ∗ rLoc d ↦{fullShare} R m d) := by
  rw [held_S4, (opOut (F := F)).result_of_not_mem (V2 m d) (b := x') (show x' ∉ ({r'} : Finset (DevRef τ sig)) by decide), V2_x,
    show (opOut (F := F)).result (V2 m d) r' = R m d from (StableHlo.reshape_result _ _ _ _ _ _ _).trans (by rw [V2_b]; rfl)]

/-- The two arrays the tasks share are all cores' runs. -/
theorem runs_eq (d : Dev nD) (f : Buf (Elt F) (bLoc d)) :
    (bigSep Finset.univ fun c : Fin 2 => coreRuns m d f c) = (iprop((aLoc d ↦{fullShare} X m d) ∗ bLoc d ↦{fullShare} f) : sProp 𝕄) := by
  rw [input_tiles, output_tiles, ← bigSep_sep']
  exact bigSep_congr fun c _ => bigSep_sep' _ _ _
theorem st0_eq (d : Dev nD) : (bigSep Finset.univ fun c : Fin ((K (F := F)).nCore 0) => (P m).st 0 d c)
    = iprop((aLoc d ↦{fullShare} X m d) ∗ bLoc d ↦{fullShare} m (bLoc d)) := runs_eq m d (m (bLoc d))
theorem dn0_eq (d : Dev nD) : (bigSep Finset.univ fun c : Fin ((K (F := F)).nCore 0) => (P m).dn 0 d c)
    = iprop((aLoc d ↦{fullShare} X m d) ∗ bLoc d ↦{fullShare} reversed (X m d)) := runs_eq m d (reversed (X m d))

theorem hIn : (opIn (F := F)).bufs ⊆ S4 := show ({x', a'} : Finset (DevRef τ sig)) ⊆ S4 by decide
theorem hOut : (opOut (F := F)).bufs ⊆ S4 := show ({b', r'} : Finset (DevRef τ sig)) ⊆ S4 by decide

/-- What the run leaves for the claims. -/
abbrev FIN (d : Dev nD) : sProp 𝕄 := iprop((xLoc d ↦{fullShare} m (xLoc d)) ∗ rLoc d ↦{fullShare} R m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hx, Ha, Ho, Hr⟩
  iapply ((K (F := F)).wp_run (D (F := F)) 𝒱 (EH := EH) (P := P m) κ d 0) $$ [Hst Hx Ha Ho Hb Hr Hts]
  isplitr; · iexact Hctx
  isplitl [Hst]; · iexact Hst
  isplitl [Ha Ho]
  · rw [st0_eq]
    isplitl [Ha] <;> iassumption
  iintro ⟨Hst, Hdn⟩
  ihave Hdn' := (Entails.of_eq (dn0_eq m d)) $$ Hdn
  icases Hdn' with ⟨Ha, Ho⟩
  iapply (wp_hlo_within 𝒱 (SparseCore.T d) none Set.univ (op := opOut) (S := S4) hOut (V := V2 m d)) $$ [Hb Hx Ha Ho Hr]
  · isplitl [Hb]; · iexact Hb
    rw [held_S4, V2_x, V2_a, V2_b, V2_r]
    isplitl [Hx]; · iexact Hx
    isplitl [Ha]; · iexact Ha
    isplitl [Ho] <;> iassumption
  iintro ⟨Hb, Hheld⟩
  ihave Hh := (Entails.of_eq (held_V3 (F := F) m d)) $$ Hheld
  icases Hh with ⟨Hx, -, -, Hr⟩
  rw [wp_ret]; imodintro; imodintro
  isplitl [Hst]; · iexact Hst
  isplitr [Hb Hts]
  · isplitl [Hx] <;> iassumption
  isplitl [Hb] <;> iassumption

/-- What the claims read of the final state. -/
def fq (d : Dev nD) (s' : Phys nD τ sig (Elt F)) : Prop := s'.mem.mem (rLoc d) = R m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := R m d)) $$ [HSI Hr]
  · isplitl [HSI] <;> iassumption
  icases H with %hr
  ipureintro; exact ⟨funext fun i => hr i (Finset.mem_univ i), funext fun i => hx i (Finset.mem_univ i)⟩

/-! ## The run -/

def QC : PUnit × MemSt nD τ sig (Elt F) → Prop := fun r => (∀ c : Dev nD, r.2.mem (rLoc c) = R m c ∧ r.2.mem (xLoc c) = m (xLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Value.lean ====
/- What the reference computes, in the kernel's terms.  The reference takes the channels of every batch entry along the
   words `767 - k`, `k < 768`: each word is turned non-negative if it is negative (none is), the channel it names is read,
   and a channel out of range would be replaced by a constant (none is out of range).  So entry `(b, k, h, w)` of its
   result is entry `(b, 767 - k, h, w)` of the input; the kernel's result, read through its two reshapes, is the same. -/
module

public import proofs.«01_k».proof.Proof.LaunchIdeal
public import proofs.«01_k».proof.Proof.Gen.ReferenceIdeal.Run
public import Idealize.ShloMosaic.Lib.Quiescent
public import Idealize.ShloMosaic.Lib.ReduceAll
public import Idealize.ShloMosaic.Lib.IdealHost
public import Idealize.ShloMosaic.Lib.Pipeline.Value

@[expose] public section

noncomputable section

namespace Cert.Proof.Value

open Idealize.ShloMosaic Idealize.ShloMosaic.TcCoe Idealize.SL.Sem
open Cert.ReferenceIdeal Cert.ReferenceIdeal.Gen

variable {F : FTy → Type} [FloatOps F]

/-! ## The index words -/

/-- The word for channel `k`: `767 - k`. -/
def word (k : Nat) : BitVec 32 := BitVec.ofNat 32 (767 - k)

/-- It is what the reference computes: `767 + (-1) * k`. -/
theorem word_eq (k : Nat) (h : k < 768) : IntOp.addi (767#32) (IntOp.muli (4294967295#32) (BitVec.ofNat 32 k)) = word k := by
  apply BitVec.eq_of_toNat_eq
  simp only [IntOp.addi, IntOp.muli, word, BitVec.toNat_add, BitVec.toNat_mul, BitVec.toNat_ofNat]
  omega

/-- Read signed it is `767 - k` too. -/
theorem word_toInt (k : Nat) : (word k).toInt = ((767 - k : Nat) : Int) := by
  unfold word
  rw [BitVec.toInt_eq_toNat_of_lt (by rw [BitVec.toNat_ofNat]; omega), BitVec.toNat_ofNat, Nat.mod_eq_of_lt (by omega)]

/-- The words before the negative ones are turned. -/
abbrev rawWords : IVec S768 32 :=
  addi (broadcastInDim S768 ![] bcast_S_S768 (constantI S_ 32 767#32))
    (muli (broadcastInDim S768 ![] bcast_S_S768 (constantI S_ 32 4294967295#32)) (iotaInDim S768 32 0))

/-- The words the gather reads. -/
abbrev words : IVec S768x1 32 :=
  broadcastInDim S768x1 ![0] bcast_S768_S768x1_0
    (select (cmpi .slt rawWords (broadcastInDim S768 ![] bcast_S_S768 (constantI S_ 32 0#32)))
      (addi rawWords (broadcastInDim S768 ![] bcast_S_S768 (constantI S_ 32 768#32))) rawWords)

theorem rawWords_apply (x : S768.Idx) : rawWords x = word (x 0).val := word_eq _ (x 0).isLt

theorem words_apply (y : S768x1.Idx) : words y = word (y 0).val := by
  have hb : words y = (select (cmpi .slt rawWords (broadcastInDim S768 ![] bcast_S_S768 (constantI S_ 32 0#32)))
      (addi rawWords (broadcastInDim S768 ![] bcast_S_S768 (constantI S_ 32 768#32))) rawWords)
        (show S768.Idx from fun a => (y 0).cast (by obtain rfl : a = 0 := Subsingleton.elim _ _; rfl)) :=
    broadcastInDim_apply _ _ _ _ _ (fun a => by obtain rfl : a = 0 := Subsingleton.elim _ _; rfl)
  rw [hb]
  show Scalar.select (IntOp.cmpi .slt (rawWords _) (0#32)) _ (rawWords _) = _
  rw [rawWords_apply]
  refine if_neg fun h => ?_
  have := IntOp.cmpi_slt.1 h
  rw [word_toInt] at this
  simp at this
  omega

/-! ## In range -/

abbrev inRange : IVec S768x1 1 :=
  andi (cmpi .sge words (broadcastInDim S768x1 ![] bcast_S_S768x1 (constantI S_ 32 0#32)))
    (cmpi .sle words (broadcastInDim S768x1 ![0, 1] bcast_S1x1_S768x1_0_1 (broadcastInDim S1x1 ![1] bcast_S1_S1x1_1 (constantI S1 32 767#32))))

theorem inRange_apply (y : S768x1.Idx) : inRange y = 1#1 := by
  show IntOp.andi (IntOp.cmpi .sge (words y) (0#32)) (IntOp.cmpi .sle (words y) (767#32)) = 1#1
  rw [words_apply, IntOp.cmpi_sge.2 (by rw [word_toInt]; simp), IntOp.cmpi_sle.2 (by rw [word_toInt]; simp)]
  rfl

/-! ## The gather -/

/-- The entry the gather reads for `j`: the channel turned round. -/
def turned (j : S16x768x56x56.Idx) : S16x768x56x56.Idx :=
  Function.update j 1 ⟨767 - (j 1).val, by show _ < 768; omega⟩

abbrev dims : GatherDims S16x768x56x56 S768x1 S16x768x56x56 := gather_S16x768x56x56_S768x1_S16x768x56x56_023_1_n_n_1_1_1615656

theorem start_channel (j : S16x768x56x56.Idx) : dims.start j words 1 = 767 - (j 1).val := by
  unfold GatherDims.start
  rw [dif_pos (show (1 : Fin 4) ∈ dims.startIndexMap from List.mem_singleton.mpr rfl), words_apply, word_toInt]
  have h : ((dims.siIdx j ⟨List.idxOf (1 : Fin 4) dims.startIndexMap, List.idxOf_lt_length_iff.2 (List.mem_singleton.mpr rfl)⟩) 0).val = (j 1).val := rfl
  erw [h]
  show min (767 - (j 1).val) (768 - 1) = _
  omega

theorem operandIdx_eq (j : S16x768x56x56.Idx) : dims.operandIdx j words = turned j := by
  funext a
  refine Fin.ext ?_
  show dims.start j words a + dims.batchCoord j a + dims.offCoord j a = _
  rw [GatherDims.batchCoord_eq_zero _ _ _ List.not_mem_nil, Nat.add_zero]
  by_cases ha : a = 1
  · subst ha
    rw [start_channel, GatherDims.offCoord_eq_zero _ _ _ (fun h => ((GatherDims.mem_sKept _ _).mp h).1 (List.mem_singleton.mpr rfl)),
      turned, Function.update_self, Nat.add_zero]
  · have hs : dims.start j words a = 0 := dif_neg fun h => ha (List.mem_singleton.mp h)
    rw [hs, Nat.zero_add, turned, Function.update_of_ne ha]
    fin_cases a
    · rfl
    · exact absurd rfl ha
    · rfl
    · rfl

/-! ## The reference's result -/

/-- The reference's result from the input `x`: every entry from the turned channel. -/
theorem result_eq (x : FVec F S16x768x56x56 .f32) (other : FVec F S16x768x56x56 .f32) :
    select (broadcastInDim S16x768x56x56 ![1] bcast_S768_S16x768x56x56_1
        (Host.reduce IntOp.andi inRange (constantI S_ 1 1#1) reducesTo_S768x1_S768_d1 h_S_))
      (Host.gather dims x words) other = fun j => x (turned j) := by
  funext j
  have hm : broadcastInDim S16x768x56x56 ![1] bcast_S768_S16x768x56x56_1
      (Host.reduce IntOp.andi inRange (constantI S_ 1 1#1) reducesTo_S768x1_S768_d1 h_S_) j = 1#1 :=
    Host.reduce_andi_one _ _ _ _ _ rfl inRange_apply
  show Scalar.select (broadcastInDim S16x768x56x56 ![1] bcast_S768_S16x768x56x56_1
      (Host.reduce IntOp.andi inRange (constantI S_ 1 1#1) reducesTo_S768x1_S768_d1 h_S_) j) (x (dims.operandIdx j words)) (other j) = _
  rw [hm, operandIdx_eq]
  rfl

/-- The reference ends with the turned input as its result, the input unchanged, and every counter at zero: the program
    has none. -/
theorem run_reference (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v5) = (fun j => m ((c.tc : Thread nD τ).loc main_arg0) (turned j) : FVec F S16x768x56x56 .f32)
      ∧ r.2.mem ((c.tc : Thread nD τ).loc main_arg0) = m ((c.tc : Thread nD τ).loc main_arg0)) ∧ r.2.sem = fun _ => 0 :=
  (θ_run defs _ _).mono (fun r h => ⟨fun c => ⟨(h c).1.trans (result_eq _ _), (h c).2⟩, sem_eq_zero_of_no_sems rfl r.2⟩)
    (Cert.ReferenceIdeal.Value.run m ρ)

/-! ## The kernel's result -/

open Cert.Proof.KernelIdeal (rev rev_zero rev_one rev_two revRow reversed)

/-- Image `768 b + k`, as the kernel numbers the images, at its row and column. -/
def image (j : S16x768x56x56.Idx) : Cert.KernelIdeal.S12288x56x56.Idx
  | ⟨0, _⟩ => ⟨768 * (j 0).val + (j 1).val, by
      have h0 : (j 0).val < 16 := (j 0).isLt
      have h1 : (j 1).val < 768 := (j 1).isLt
      show _ < 12288; omega⟩
  | ⟨1, _⟩ => j 2
  | ⟨2, _⟩ => j 3

/-- The kernel reverses the images of an entry as the reference turns its channels. -/
theorem rev_image (j : S16x768x56x56.Idx) : rev (image j) = image (turned j) := by
  have h1 : (j 1).val < 768 := (j 1).isLt
  funext a
  fin_cases a
  · refine Fin.ext ((rev_zero _).trans ?_)
    show revRow (768 * (j 0).val + (j 1).val) = 768 * (j 0).val + (767 - (j 1).val)
    unfold revRow; omega
  · exact rev_one _
  · exact rev_two _

/-- `image j` and `j` stand at the same place in row-major order. -/
theorem image_rowMajor (j : S16x768x56x56.Idx) : (Cert.KernelIdeal.S12288x56x56.rowMajor (image j)).val = (S16x768x56x56.rowMajor j).val := by
  rw [show (Cert.KernelIdeal.S12288x56x56.rowMajor (image j)).val = _ from Shape.rowMajor_val_three _,
    show (S16x768x56x56.rowMajor j).val = _ from Shape.rowMajor_val_four _]
  show ((768 * (j 0).val + (j 1).val) * 56 + (j 2).val) * 56 + (j 3).val = (((j 0).val * 768 + (j 1).val) * 56 + (j 2).val) * 56 + (j 3).val
  omega

/-- The kernel's result is the turned input. -/
theorem R_apply (m : (ℓ : Loc Cert.KernelIdeal.nD Cert.KernelIdeal.τ Cert.KernelIdeal.sig) → Buf (Elt F) ℓ) (d : Dev Cert.KernelIdeal.nD) (j : S16x768x56x56.Idx) :
    Cert.Proof.KernelIdeal.R m d j = m (Cert.Proof.KernelIdeal.xLoc d) (turned j) := by
  refine (shapeCast_apply _ _ j (image j) (image_rowMajor j)).trans ?_
  show Cert.Proof.KernelIdeal.X m d (rev (image j)) = _
  rw [rev_image]
  exact shapeCast_apply _ _ _ _ (image_rowMajor (turned j)).symm

end Cert.Proof.Value

end
-- ==== Proof.lean ====
/- The claims, from the two kernel runs (`Launch`, at each float reading) and the reference's run (`Value`). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel :=
  fun m ρ _ => (θ_run Cert.Kernel.defs _ _).mono (fun _ h => ⟨fun c => (h.1 c).2, h.2⟩) (Kernel.run_main (F := Bits) m ρ)

theorem frame_ideal : Cert.quiescent_KernelIdeal :=
  fun m ρ _ => (θ_run Cert.KernelIdeal.defs _ _).mono (fun _ h => ⟨fun c => (h.1 c).2, h.2⟩) (KernelIdeal.run_main (F := Ideal) m ρ)

theorem frame_reference : Cert.quiescent_ReferenceIdeal :=
  fun m ρ _ => (θ_run Cert.ReferenceIdeal.defs _ _).mono (fun _ h => ⟨fun c => (h.1 c).2, h.2⟩) (Value.run_reference (F := Ideal) m ρ)

/-- Both end with the input's channels turned round; the two inputs are one. -/
theorem values : Cert.algebraic_KernelIdeal_ReferenceIdeal := by
  intro m ρ m' ρ' _ hin
  refine ⟨fun c => KernelIdeal.R m c, (θ_run Cert.KernelIdeal.defs _ _).mono (fun _ h => h.1) (KernelIdeal.run_main (F := Ideal) m ρ), ?_⟩
  refine (θ_run Cert.ReferenceIdeal.defs _ _).mono (fun r h c => ⟨(h.1 c).1.trans ?_, (h.1 c).2⟩) (Value.run_reference (F := Ideal) m' ρ')
  funext j
  exact (congrFun (hin c) (Value.turned j)).trans (Value.R_apply m c j).symm

theorem claim : Cert.Claim :=
  ⟨Cert.Kernel.Gen.facts, Cert.KernelIdeal.Gen.facts, Cert.ReferenceIdeal.Gen.facts,
    frame_kernel, frame_ideal, frame_reference, trivial, values⟩

end Cert.Proof

end
